-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_cubic" .f32 0x3D122279#32 ((80338380498831 * 2251799813685248⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S1x1024x1280 : Shape := ⟨3, ![1, 1024, 1280]⟩
abbrev S1024x1280 : Shape := ⟨2, ![1024, 1280]⟩
abbrev S1x1280 : Shape := ⟨2, ![1, 1280]⟩
abbrev S1280 : Shape := ⟨1, ![1280]⟩
abbrev S16 : Shape := ⟨1, ![16]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S1x1024x1536_S1x1024x1280_0_0_0 : S1x1024x1536.Slices ![0, 0, 0] S1x1024x1280
  shapeCasts_S1x1024x1280_S1024x1280 : S1x1024x1280.ShapeCasts S1024x1280
  bcast_S_S1024x1280 : S_.BroadcastsInDim S1024x1280 (![] : Fin 0 → Fin S1024x1280.rank)
  reducesTo_S1024x1280_S_d0_1 : S1024x1280.ReducesTo [0, 1] S_
  slices_S1x1536_S1x1280_0_0 : S1x1536.Slices ![0, 0] S1x1280
  shapeCasts_S1x1280_S1280 : S1x1280.ShapeCasts S1280
  bcast_S_S1280 : S_.BroadcastsInDim S1280 (![] : Fin 0 → Fin S1280.rank)
  reducesTo_S1280_S_d0 : S1280.ReducesTo [0] S_
  shapeCasts_S1x16_S16 : S1x16.ShapeCasts S16
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S1x16 .f32) (main_v12 : IVec S_ 1) (main_v17 : IVec S1280 1) (main_c_3 : IVec S_ 1) : IVec S_ 1 :=
  let main_v18 : IVec S_ 1 := (fun x v => Host.reduce IntOp.andi x v reducesTo_S1280_S_d0 h_S_) main_v17 main_c_3
  let main_v19 : IVec S_ 1 := andi main_v12 main_v18
  let main_v20 : FVec F S16 .f32 := shapeCast S16 main_arg5 shapeCasts_S1x16_S16
  let main_v21 : FVec F S16 .f32 := Host.absf main_v20
  let main_cst_4 : FVec F S_ .f32 := constant S_ .f32 0x7F800000#32
  let main_v22 : FVec F S16 .f32 := broadcastInDim S16 ![] bcast_S_S16 main_cst_4
  let main_v23 : IVec S16 1 := cmpf .olt main_v21 main_v22
  let main_c_5 : IVec S_ 1 := constantI S_ 1 1#1
  let main_v24 : IVec S_ 1 := (fun x v => Host.reduce IntOp.andi x v reducesTo_S16_S_d0 h_S_) main_v23 main_c_5
  let main_v25 : IVec S_ 1 := andi main_v19 main_v24
  main_v25

def fn {F : FTy → Type} [FloatOps F] (main_arg0 : FVec F S8x4096x1024 .f32) (main_arg1 : FVec F S2x1024 .f32) (main_arg2 : FVec F S2x1024 .f32) (main_arg3 : FVec F S1x1024x1536 .f32) (main_arg4 : FVec F S1x1536 .f32) (main_arg5 : FVec F S1x16 .f32) (main_arg6 : FVec F S1x1024x1024 .f32) (main_arg7 : FVec F S1x1024 .f32) : IVec S_ 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x1280 .f32 := (extractStridedSlice S1x1024x1280 ![0, 0, 0] · slices_S1x1024x1536_S1x1024x1280_0_0_0) main_arg3
  let main_v7 : FVec F S1024x1280 .f32 := shapeCast S1024x1280 main_v6 shapeCasts_S1x1024x1280_S1024x1280
  let main_v8 : FVec F S1024x1280 .f32 := Host.absf main_v7
  let main_cst_0 : FVec F S_ .f32 := constant S_ .f32 0x7F800000#32
  let main_v9 : FVec F S1024x1280 .f32 := broadcastInDim S1024x1280 ![] bcast_S_S1024x1280 main_cst_0
  let main_v10 : IVec S1024x1280 1 := cmpf .olt main_v8 main_v9
  let main_c_1 : IVec S_ 1 := constantI S_ 1 1#1
  let main_v11 : IVec S_ 1 := (fun x v => Host.reduce IntOp.andi x v reducesTo_S1024x1280_S_d0_1 h_S_) main_v10 main_c_1
  let main_v12 : IVec S_ 1 := andi main_v5 main_v11
  let main_v13 : FVec F S1x1280 .f32 := (extractStridedSlice S1x1280 ![0, 0] · slices_S1x1536_S1x1280_0_0) main_arg4
  let main_v14 : FVec F S1280 .f32 := shapeCast S1280 main_v13 shapeCasts_S1x1280_S1280
  let main_v15 : FVec F S1280 .f32 := Host.absf main_v14
  let main_cst_2 : FVec F S_ .f32 := constant S_ .f32 0x7F800000#32
  let main_v16 : FVec F S1280 .f32 := broadcastInDim S1280 ![] bcast_S_S1280 main_cst_2
  let main_v17 : IVec S1280 1 := cmpf .olt main_v15 main_v16
  let main_c_3 : IVec S_ 1 := constantI S_ 1 1#1
  fn_part1 (F := F) main_arg5 main_v12 main_v17 main_c_3
-- ==== Kernel.lean ====
abbrev S8x4096x1024 : Shape := ⟨3, ![8, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S1x1024x1024 : Shape := ⟨3, ![1, 1024, 1024]⟩
abbrev S1x1024 : Shape := ⟨2, ![1, 1024]⟩
abbrev S32 : Shape := ⟨1, ![32]⟩
abbrev S_ : Shape := ⟨0, ![]⟩
abbrev S32x1 : Shape := ⟨2, ![32, 1]⟩
abbrev S4096 : Shape := ⟨1, ![4096]⟩
abbrev S1x4096 : Shape := ⟨2, ![1, 4096]⟩
abbrev S32x4096 : Shape := ⟨2, ![32, 4096]⟩
abbrev S1024 : Shape := ⟨1, ![1024]⟩
abbrev S1024x1536 : Shape := ⟨2, ![1024, 1536]⟩
abbrev S1536x1024 : Shape := ⟨2, ![1536, 1024]⟩
abbrev S1536 : Shape := ⟨1, ![1536]⟩
abbrev S1536x1 : Shape := ⟨2, ![1536, 1]⟩
abbrev S16 : Shape := ⟨1, ![16]⟩
abbrev S1024x1024 : Shape := ⟨2, ![1024, 1024]⟩
abbrev S32x1024 : Shape := ⟨2, ![32, 1024]⟩
abbrev S128x256 : Shape := ⟨2, ![128, 256]⟩
abbrev S256x128 : Shape := ⟨2, ![256, 128]⟩
abbrev S128x512 : Shape := ⟨2, ![128, 512]⟩
abbrev S1x512 : Shape := ⟨2, ![1, 512]⟩
abbrev S64x512 : Shape := ⟨2, ![64, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S32x256 : Shape := ⟨2, ![32, 256]⟩
abbrev S512x256 : Shape := ⟨2, ![512, 256]⟩
abbrev S128x128 : Shape := ⟨2, ![128, 128]⟩
abbrev S64x128 : Shape := ⟨2, ![64, 128]⟩
abbrev S256x512 : Shape := ⟨2, ![256, 512]⟩
abbrev S1 : Shape := ⟨1, ![1]⟩
abbrev S512 : Shape := ⟨1, ![512]⟩
abbrev S64x256 : Shape := ⟨2, ![64, 256]⟩
abbrev S1024x128 : Shape := ⟨2, ![1024, 128]⟩
abbrev S1x256 : Shape := ⟨2, ![1, 256]⟩

abbrev nBuf : Space → Nat
  | .hbm => 45
  | .vmem => 16
  | .smem => 1
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024, .f32⟩
  | .hbm, ⟨3, _⟩ => ⟨S1x1024x1536, .f32⟩
  | .hbm, ⟨4, _⟩ => ⟨S1x1536, .f32⟩
  | .hbm, ⟨5, _⟩ => ⟨S1x16, .f32⟩
  | .hbm, ⟨6, _⟩ => ⟨S1x1024x1024, .f32⟩
  | .hbm, ⟨7, _⟩ => ⟨S1x1024, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S4096, .i32⟩
  | .hbm, ⟨21, _⟩ => ⟨S4096, .f32⟩
  | .hbm, ⟨22, _⟩ => ⟨S1x4096, .f32⟩
  | .hbm, ⟨23, _⟩ => ⟨S32x4096, .f32⟩
  | .hbm, ⟨24, _⟩ => ⟨S32x4096, .f32⟩
  | .hbm, ⟨25, _⟩ => ⟨S32x4096, .f32⟩
  | .hbm, ⟨26, _⟩ => ⟨S32x4096, .f32⟩
  | .hbm, ⟨27, _⟩ => ⟨S32x4096, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024x1536, .f32⟩
  | .hbm, ⟨35, _⟩ => ⟨S1536x1024, .f32⟩
  | .hbm, ⟨36, _⟩ => ⟨S1536x1024, .bf16⟩
  | .hbm, ⟨37, _⟩ => ⟨S1536, .f32⟩
  | .hbm, ⟨38, _⟩ => ⟨S1536x1, .f32⟩
  | .hbm, ⟨39, _⟩ => ⟨S16, .f32⟩
  | .hbm, ⟨40, _⟩ => ⟨S1024x1024, .f32⟩
  | .hbm, ⟨41, _⟩ => ⟨S1024x1024, .bf16⟩
  | .hbm, ⟨42, _⟩ => ⟨S1024, .f32⟩
  | .hbm, ⟨43, _⟩ => ⟨S1x1024, .f32⟩
  | .hbm, ⟨44, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1536x1024, .bf16⟩
  | .local _ .vmem, ⟨5, _⟩ => ⟨S1536x1, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S128x256, .bf16⟩
  | .local _ .vmem, ⟨15, _⟩ => ⟨S256x128, .bf16⟩
  | .local _ .smem, ⟨0, _⟩ => ⟨S16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((8 * (Real.log 2))⁻¹ : ℝ) : EReal)
  | _ => none
-- ==== ReferenceIdeal.lean ====
abbrev S8x4096x1024 : Shape := ⟨3, ![8, 4096, 1024]⟩
abbrev S2x1024 : Shape := ⟨2, ![2, 1024]⟩
abbrev S1x1024x1536 : Shape := ⟨3, ![1, 1024, 1536]⟩
abbrev S1x1536 : Shape := ⟨2, ![1, 1536]⟩
abbrev S1x16 : Shape := ⟨2, ![1, 16]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S1536 : Shape := ⟨1, ![1536]⟩
abbrev S16 : Shape := ⟨1, ![16]⟩
abbrev S1024x1024 : Shape := ⟨2, ![1024, 1024]⟩
abbrev S8x4096x1536 : Shape := ⟨3, ![8, 4096, 1536]⟩
abbrev S1x1x1536 : Shape := ⟨3, ![1, 1, 1536]⟩
abbrev S8x4096x16x64 : Shape := ⟨4, ![8, 4096, 16, 64]⟩
abbrev S8x4096x256 : Shape := ⟨3, ![8, 4096, 256]⟩
abbrev S8x4096x4x64 : Shape := ⟨4, ![8, 4096, 4, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x16x32 : Shape := ⟨4, ![8, 4096, 16, 32]⟩
abbrev S8x4096x4x32 : Shape := ⟨4, ![8, 4096, 4, 32]⟩
abbrev S8x32x128x4x4x64 : Shape := ⟨6, ![8, 32, 128, 4, 4, 64]⟩
abbrev S8x32x128x4x64 : Shape := ⟨5, ![8, 32, 128, 4, 64]⟩
abbrev S8x1x128x4x64 : Shape := ⟨5, ![8, 1, 128, 4, 64]⟩
abbrev S8x31x128x4x64 : Shape := ⟨5, ![8, 31, 128, 4, 64]⟩
abbrev S8x32x256x4x64 : Shape := ⟨5, ![8, 32, 256, 4, 64]⟩
abbrev S8x32x4x256x128x4 : Shape := ⟨6, ![8, 32, 4, 256, 128, 4]⟩
abbrev S8x32x4x4x128x256 : Shape := ⟨6, ![8, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S8x32x4x4x128 : Shape := ⟨5, ![8, 32, 4, 4, 128]⟩
abbrev S8x32x4x4x128x1 : Shape := ⟨6, ![8, 32, 4, 4, 128, 1]⟩
abbrev S8x32x4x64x4x128 : Shape := ⟨6, ![8, 32, 4, 64, 4, 128]⟩

abbrev nBuf : Space → Nat
  | .hbm => 213
  | .vmem => 0
  | .smem => 0
  | _ => 0

abbrev hbmTy0_0 (i : Nat) : BufTy := match i % 128 with
  | 0 => ⟨S8x4096x1024, .f32⟩
  | 1 => ⟨S2x1024, .f32⟩
  | 2 => ⟨S2x1024, .f32⟩
  | 3 => ⟨S1x1024x1536, .f32⟩
  | 4 => ⟨S1x1536, .f32⟩
  | 5 => ⟨S1x16, .f32⟩
  | 6 => ⟨S1x1024x1024, .f32⟩
  | 7 => ⟨S1x1024, .f32⟩
  | 8 => ⟨S1x1024, .f32⟩
  | 9 => ⟨S1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S1024x1536, .f32⟩
  | 27 => ⟨S1536, .f32⟩
  | 28 => ⟨S16, .f32⟩
  | 29 => ⟨S1024x1024, .f32⟩
  | 30 => ⟨S1024, .f32⟩
  | 31 => ⟨S8x4096x1536, .f32⟩
  | 32 => ⟨S1x1x1536, .f32⟩
  | 33 => ⟨S8x4096x1536, .f32⟩
  | 34 => ⟨S8x4096x1536, .f32⟩
  | 35 => ⟨S8x4096x1024, .f32⟩
  | 36 => ⟨S8x4096x16x64, .f32⟩
  | 37 => ⟨S8x4096x256, .f32⟩
  | 38 => ⟨S8x4096x4x64, .f32⟩
  | 39 => ⟨S8x4096x256, .f32⟩
  | 40 => ⟨S8x4096x4x64, .f32⟩
  | 41 => ⟨S4096, .i32⟩
  | 42 => ⟨S32, .f32⟩
  | 43 => ⟨S_, .f32⟩
  | 44 => ⟨S32, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S4096, .f32⟩
  | 54 => ⟨S4096x1, .f32⟩
  | 55 => ⟨S1x32, .f32⟩
  | 56 => ⟨S4096x32, .f32⟩
  | 57 => ⟨S4096x32, .f32⟩
  | 58 => ⟨S4096x32, .f32⟩
  | 59 => ⟨S4096x32, .f32⟩
  | 60 => ⟨S1x4096x1x32, .f32⟩
  | 61 => ⟨S4096x32, .f32⟩
  | 62 => ⟨S1x4096x1x32, .f32⟩
  | 63 => ⟨S8x4096x16x32, .f32⟩
  | 64 => ⟨S8x4096x16x32, .f32⟩
  | 65 => ⟨S8x4096x16x32, .f32⟩
  | 66 => ⟨S8x4096x16x32, .f32⟩
  | 67 => ⟨S8x4096x16x32, .f32⟩
  | 68 => ⟨S8x4096x16x32, .f32⟩
  | 69 => ⟨S8x4096x16x32, .f32⟩
  | 70 => ⟨S8x4096x16x32, .f32⟩
  | 71 => ⟨S8x4096x16x32, .f32⟩
  | 72 => ⟨S8x4096x16x32, .f32⟩
  | 73 => ⟨S8x4096x16x32, .f32⟩
  | 74 => ⟨S8x4096x16x32, .f32⟩
  | 75 => ⟨S8x4096x16x64, .f32⟩
  | 76 => ⟨S32, .f32⟩
  | 77 => ⟨S_, .f32⟩
  | 78 => ⟨S32, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S4096, .f32⟩
  | 88 => ⟨S4096x1, .f32⟩
  | 89 => ⟨S1x32, .f32⟩
  | 90 => ⟨S4096x32, .f32⟩
  | 91 => ⟨S4096x32, .f32⟩
  | 92 => ⟨S4096x32, .f32⟩
  | 93 => ⟨S4096x32, .f32⟩
  | 94 => ⟨S1x4096x1x32, .f32⟩
  | 95 => ⟨S4096x32, .f32⟩
  | 96 => ⟨S1x4096x1x32, .f32⟩
  | 97 => ⟨S8x4096x4x32, .f32⟩
  | 98 => ⟨S8x4096x4x32, .f32⟩
  | 99 => ⟨S8x4096x4x32, .f32⟩
  | 100 => ⟨S8x4096x4x32, .f32⟩
  | 101 => ⟨S8x4096x4x32, .f32⟩
  | 102 => ⟨S8x4096x4x32, .f32⟩
  | 103 => ⟨S8x4096x4x32, .f32⟩
  | 104 => ⟨S8x4096x4x32, .f32⟩
  | 105 => ⟨S8x4096x4x32, .f32⟩
  | 106 => ⟨S8x4096x4x32, .f32⟩
  | 107 => ⟨S8x4096x4x32, .f32⟩
  | 108 => ⟨S8x4096x4x32, .f32⟩
  | 109 => ⟨S8x4096x4x64, .f32⟩
  | 110 => ⟨S8x32x128x4x4x64, .f32⟩
  | 111 => ⟨S8x32x128x4x64, .f32⟩
  | 112 => ⟨S8x32x128x4x64, .f32⟩
  | 113 => ⟨S8x1x128x4x64, .f32⟩
  | 114 => ⟨S_, .f32⟩
  | 115 => ⟨S8x1x128x4x64, .f32⟩
  | 116 => ⟨S8x31x128x4x64, .f32⟩
  | 117 => ⟨S8x32x128x4x64, .f32⟩
  | 118 => ⟨S8x32x256x4x64, .f32⟩
  | 119 => ⟨S8x31x128x4x64, .f32⟩
  | 120 => ⟨S8x32x128x4x64, .f32⟩
  | 121 => ⟨S8x32x256x4x64, .f32⟩
  | 122 => ⟨S8x32x4x256x128x4, .f32⟩
  | 123 => ⟨S8x32x4x4x128x256, .f32⟩
  | 124 => ⟨S_, .f32⟩
  | 125 => ⟨S8x32x4x4x128x256, .f32⟩
  | 126 => ⟨S8x32x4x4x128x256, .f32⟩
  | 127 => ⟨S128, .i32⟩
  | _ => ⟨S8x4096x1024, .f32⟩

abbrev hbmTy0_1 (i : Nat) : BufTy := match i % 128 with
  | 0 => ⟨S128x1, .i32⟩
  | 1 => ⟨S_, .i32⟩
  | 2 => ⟨S128x1, .i32⟩
  | 3 => ⟨S128x1, .i32⟩
  | 4 => ⟨S256, .i32⟩
  | 5 => ⟨S1x256, .i32⟩
  | 6 => ⟨S128x256, .i32⟩
  | 7 => ⟨S128x256, .i32⟩
  | 8 => ⟨S128x256, .i1⟩
  | 9 => ⟨S128x256, .i32⟩
  | 10 => ⟨S128x256, .i32⟩
  | 11 => ⟨S128x256, .i32⟩
  | 12 => ⟨S_, .i32⟩
  | 13 => ⟨S128x256, .i32⟩
  | 14 => ⟨S128x256, .i1⟩
  | 15 => ⟨S128x256, .i1⟩
  | 16 => ⟨S32, .i32⟩
  | 17 => ⟨S32x1x1, .i32⟩
  | 18 => ⟨S1x128x256, .i1⟩
  | 19 => ⟨S_, .i32⟩
  | 20 => ⟨S32x1x1, .i32⟩
  | 21 => ⟨S32x1x1, .i32⟩
  | 22 => ⟨S1x1x256, .i32⟩
  | 23 => ⟨S32x1x256, .i32⟩
  | 24 => ⟨S32x1x256, .i32⟩
  | 25 => ⟨S32x1x256, .i32⟩
  | 26 => ⟨S_, .i32⟩
  | 27 => ⟨S32x1x256, .i32⟩
  | 28 => ⟨S32x1x256, .i32⟩
  | 29 => ⟨S_, .i32⟩
  | 30 => ⟨S32x1x256, .i32⟩
  | 31 => ⟨S32x1x256, .i1⟩
  | 32 => ⟨S32x128x256, .i1⟩
  | 33 => ⟨S32x128x256, .i1⟩
  | 34 => ⟨S32x128x256, .i1⟩
  | 35 => ⟨S1x32x1x1x128x256, .i1⟩
  | 36 => ⟨S_, .f32⟩
  | 37 => ⟨S_, .f32⟩
  | 38 => ⟨S8x32x4x4x128x256, .i1⟩
  | 39 => ⟨S8x32x4x4x128x256, .f32⟩
  | 40 => ⟨S8x32x4x4x128x256, .f32⟩
  | 41 => ⟨S1x1x4x4x1x1, .f32⟩
  | 42 => ⟨S_, .f32⟩
  | 43 => ⟨S8x32x4x4x128, .f32⟩
  | 44 => ⟨S8x32x4x4x128x1, .f32⟩
  | 45 => ⟨S8x32x4x4x128x1, .f32⟩
  | 46 => ⟨S8x32x4x4x128x1, .f32⟩
  | 47 => ⟨S8x32x4x4x128x256, .f32⟩
  | 48 => ⟨S8x32x4x4x128x256, .f32⟩
  | 49 => ⟨S8x32x4x4x128x256, .f32⟩
  | 50 => ⟨S_, .f32⟩
  | 51 => ⟨S8x32x4x4x128, .f32⟩
  | 52 => ⟨S8x32x4x4x128x1, .f32⟩
  | 53 => ⟨S8x32x4x4x128x1, .f32⟩
  | 54 => ⟨S8x32x4x4x128x1, .f32⟩
  | 55 => ⟨S8x32x4x4x128x1, .f32⟩
  | 56 => ⟨S8x32x4x4x128x1, .f32⟩
  | 57 => ⟨S8x32x4x4x128x256, .f32⟩
  | 58 => ⟨S8x32x4x4x128x256, .f32⟩
  | 59 => ⟨S8x32x4x64x4x128, .f32⟩
  | 60 => ⟨S8x32x128x4x4x64, .f32⟩
  | 61 => ⟨S8x4096x1024, .f32⟩
  | 62 => ⟨S8x4096x1024, .f32⟩
  | 63 => ⟨S1x1x1024, .f32⟩
  | 64 => ⟨S8x4096x1024, .f32⟩
  | 65 => ⟨S8x4096x1024, .f32⟩
  | 66 => ⟨S1x1024, .f32⟩
  | 67 => ⟨S1024, .f32⟩
  | 68 => ⟨S8x4096x1024, .f32⟩
  | 69 => ⟨S_, .f32⟩
  | 70 => ⟨S8x4096, .f32⟩
  | 71 => ⟨S8x4096x1, .f32⟩
  | 72 => ⟨S_, .f32⟩
  | 73 => ⟨S8x4096x1, .f32⟩
  | 74 => ⟨S8x4096x1, .f32⟩
  | 75 => ⟨S_, .f32⟩
  | 76 => ⟨S8x4096x1, .f32⟩
  | 77 => ⟨S8x4096x1, .f32⟩
  | 78 => ⟨S8x4096x1, .f32⟩
  | 79 => ⟨S8x4096x1024, .f32⟩
  | 80 => ⟨S8x4096x1024, .f32⟩
  | 81 => ⟨S1x1x1024, .f32⟩
  | 82 => ⟨S8x4096x1024, .f32⟩
  | 83 => ⟨S8x4096x1024, .f32⟩
  | 84 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_8 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_9 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_c : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_c_10 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_c_11 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_c_12 : Ref sig .tc := ⟨.hbm, 154, rfl⟩
abbrev main_v132 : Ref sig .tc := ⟨.hbm, 155, rfl⟩
abbrev main_v133 : Ref sig .tc := ⟨.hbm, 156, rfl⟩
abbrev main_c_13 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_14 : Ref sig .tc := ⟨.hbm, 164, rfl⟩
abbrev main_call0_v0 : Ref sig .tc := ⟨.hbm, 165, rfl⟩
abbrev main_call0_v1 : Ref sig .tc := ⟨.hbm, 166, rfl⟩
abbrev main_call0_v2 : Ref sig .tc := ⟨.hbm, 167, rfl⟩
abbrev main_v140 : Ref sig .tc := ⟨.hbm, 168, rfl⟩
abbrev main_v141 : Ref sig .tc := ⟨.hbm, 169, rfl⟩
abbrev main_cst_15 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_16 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_17 : Ref sig .tc := ⟨.hbm, 197, rfl⟩
abbrev main_v167 : Ref sig .tc := ⟨.hbm, 198, rfl⟩
abbrev main_v168 : Ref sig .tc := ⟨.hbm, 199, rfl⟩
abbrev main_cst_18 : Ref sig .tc := ⟨.hbm, 200, rfl⟩
abbrev main_v169 : Ref sig .tc := ⟨.hbm, 201, rfl⟩
abbrev main_v170 : Ref sig .tc := ⟨.hbm, 202, rfl⟩
abbrev main_cst_19 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 19
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x5632, .f32⟩
  | .hbm, ⟨13, _⟩ => ⟨S1024x5632, .f32⟩
  | .hbm, ⟨14, _⟩ => ⟨S1024x5632, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S8x4096x5632, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S1x1024, .f32⟩
  | .hbm, ⟨42, _⟩ => ⟨S1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S32768x1024 : Shape := ⟨2, ![32768, 1024]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S1024x2048 : Shape := ⟨2, ![1024, 2048]⟩
abbrev S8x128x128 : Shape := ⟨3, ![8, 128, 128]⟩
abbrev S1024x1024 : Shape := ⟨2, ![1024, 1024]⟩
abbrev S128x128 : Shape := ⟨2, ![128, 128]⟩
abbrev S1x128x128 : Shape := ⟨3, ![1, 128, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 31
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024, .f32⟩
  | .hbm, ⟨3, _⟩ => ⟨S1x1024x2048, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S32768x1024, .f32⟩
  | .hbm, ⟨10, _⟩ => ⟨S8x128, .f32⟩
  | .hbm, ⟨11, _⟩ => ⟨S128x8, .f32⟩
  | .hbm, ⟨12, _⟩ => ⟨S128x8x128, .f32⟩
  | .hbm, ⟨13, _⟩ => ⟨S128x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x2048, .f32⟩
  | .hbm, ⟨21, _⟩ => ⟨S1024x2048, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8x128x128, .f32⟩
  | .hbm, ⟨27, _⟩ => ⟨S8x128x128, .bf16⟩
  | .hbm, ⟨28, _⟩ => ⟨S1024x1024, .f32⟩
  | .hbm, ⟨29, _⟩ => ⟨S1024x1024, .bf16⟩
  | .hbm, ⟨30, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x1024, .f32⟩
  | .local _ .vmem, ⟨6, _⟩ => ⟨S1x1024, .f32⟩
  | .local _ .vmem, ⟨7, _⟩ => ⟨S8x128x128, .bf16⟩
  | .local _ .vmem, ⟨8, _⟩ => ⟨S128x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F] [Named F]
def κ : String → Option EReal := fun
  | "gelu_cubic" => some ((80338380498831 * 2251799813685248⁻¹ : ℝ) : EReal)
  | _ => none
-- ==== Reference3Ideal.lean ====
abbrev S8x4096x1024 : Shape := ⟨3, ![8, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x4096x2048 : Shape := ⟨3, ![8, 4096, 2048]⟩
abbrev S8x32x128x8x128 : Shape := ⟨5, ![8, 32, 128, 8, 128]⟩
abbrev S128x128 : Shape := ⟨2, ![128, 128]⟩
abbrev S1x128x128 : Shape := ⟨3, ![1, 128, 128]⟩
abbrev S8x8x32x128x128 : Shape := ⟨5, ![8, 8, 32, 128, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024, .f32⟩
  | .hbm, ⟨3, _⟩ => ⟨S1x1024x2048, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S1024x2048, .f32⟩
  | .hbm, ⟨28, _⟩ => ⟨S1024, .f32⟩
  | .hbm, ⟨29, _⟩ => ⟨S1024, .f32⟩
  | .hbm, ⟨30, _⟩ => ⟨S8x128x128, .f32⟩
  | .hbm, ⟨31, _⟩ => ⟨S8x128, .f32⟩
  | .hbm, ⟨32, _⟩ => ⟨S1024x1024, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S_, .f32⟩
  | .hbm, ⟨41, _⟩ => ⟨S8x4096x2048, .f32⟩
  | .hbm, ⟨42, _⟩ => ⟨S8x4096x2048, .f32⟩
  | .hbm, ⟨43, _⟩ => ⟨S8x4096x2048, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S8x32x128x8x128, .f32⟩
  | .hbm, ⟨83, _⟩ => ⟨S_, .f32⟩
  | .hbm, ⟨84, _⟩ => ⟨S128x128, .f32⟩
  | .hbm, ⟨85, _⟩ => ⟨S128x128, .i32⟩
  | .hbm, ⟨86, _⟩ => ⟨S_, .i32⟩
  | .hbm, ⟨87, _⟩ => ⟨S128x128, .i32⟩
  | .hbm, ⟨88, _⟩ => ⟨S128x128, .i32⟩
  | .hbm, ⟨89, _⟩ => ⟨S128x128, .i32⟩
  | .hbm, ⟨90, _⟩ => ⟨S128x128, .i1⟩
  | .hbm, ⟨91, _⟩ => ⟨S_, .f32⟩
  | .hbm, ⟨92, _⟩ => ⟨S128x128, .f32⟩
  | .hbm, ⟨93, _⟩ => ⟨S128x128, .f32⟩
  | .hbm, ⟨94, _⟩ => ⟨S1x128x128, .f32⟩
  | .hbm, ⟨95, _⟩ => ⟨S8x128x128, .f32⟩
  | .hbm, ⟨96, _⟩ => ⟨S8x128x128, .f32⟩
  | .hbm, ⟨97, _⟩ => ⟨S8x8x32x128x128, .f32⟩
  | .hbm, ⟨98, _⟩ => ⟨S8x32x128x8x128, .f32⟩
  | .hbm, ⟨99, _⟩ => ⟨S128x8, .f32⟩
  | .hbm, ⟨100, _⟩ => ⟨S1x1x128x8x1, .f32⟩
  | .hbm, ⟨101, _⟩ => ⟨S8x32x128x8x128, .f32⟩
  | .hbm, ⟨102, _⟩ => ⟨S8x32x128x8x128, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S1x1024, .f32⟩
  | .hbm, ⟨107, _⟩ => ⟨S1024, .f32⟩
  | .hbm, ⟨108, _⟩ => ⟨S8x4096x1024, .f32⟩
  | .hbm, ⟨109, _⟩ => ⟨S_, .f32⟩
  | .hbm, ⟨110, _⟩ => ⟨S8x4096, .f32⟩
  | .hbm, ⟨111, _⟩ => ⟨S8x4096x1, .f32⟩
  | .hbm, ⟨112, _⟩ => ⟨S_, .f32⟩
  | .hbm, ⟨113, _⟩ => ⟨S8x4096x1, .f32⟩
  | .hbm, ⟨114, _⟩ => ⟨S8x4096x1, .f32⟩
  | .hbm, ⟨115, _⟩ => ⟨S_, .f32⟩
  | .hbm, ⟨116, _⟩ => ⟨S8x4096x1, .f32⟩
  | .hbm, ⟨117, _⟩ => ⟨S8x4096x1, .f32⟩
  | .hbm, ⟨118, _⟩ => ⟨S8x4096x1, .f32⟩
  | .hbm, ⟨119, _⟩ => ⟨S8x4096x1024, .f32⟩
  | .hbm, ⟨120, _⟩ => ⟨S8x4096x1024, .f32⟩
  | .hbm, ⟨121, _⟩ => ⟨S1x1x1024, .f32⟩
  | .hbm, ⟨122, _⟩ => ⟨S8x4096x1024, .f32⟩
  | .hbm, ⟨123, _⟩ => ⟨S8x4096x1024, .f32⟩
  | .hbm, ⟨124, _⟩ => ⟨S8x4096x1024, .f32⟩
  | .hbm, ⟨125, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_cst : Ref sig .tc := ⟨.hbm, 91, rfl⟩
abbrev main_call0_v5 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Proof.Body.lean ====
module

public import proofs.«01_k».proof.Proof.Gen.KernelIdeal.Skeleton

/-! The body of the attention kernel, one definition per stage.

The printed kernel is one straight line: its four sub-tiles of 256 rows are written out one after the other, and
within a sub-tile its two blocks of 128 queries and its four key/value heads. Here each stage is written once, over
the values it reads; the sub-tile, the block and the head are arguments. -/

@[expose] public section

noncomputable section

namespace Cert.KernelIdeal.Attn

open Idealize.ShloMosaic Idealize.SL.Sem Cert.KernelIdeal.Gen

variable {F : FTy → Type} [FloatOps F] [Named F]

/-! ## Projections -/

/-- The root mean square scaling of 256 rows: each row over the square root of its mean square plus epsilon, times
    the gain. -/
def rms (g : FVec F S1x1024 .f32) (x : FVec F S256x1024 .f32) : FVec F S256x1024 .f32 :=
  mulf (mulf x (broadcastTo S256x1024
    (rsqrt (addf (divf (shapeCast S256x1 (multiReduction .add [1] S256 (mulf x x) 0x00000000#32 reduces_S256x1024_S256 (.inl rfl) rfl)
      shapeCasts_S256_S256x1) (broadcast S256x1 (Scalar.ofBits .f32 0x44800000#32))) (broadcast S256x1 (Scalar.ofBits .f32 0x358637BD#32))))
    broadcasts_S256x1_S256x1024)) (broadcastTo S256x1024 g broadcasts_S1x1024_S256x1024)

/-- The normalised rows of a sub-tile, transposed: features down, rows across. -/
def normT (g : FVec F S1x1024 .f32) (x : FVec F S1x256x1024 .f32) : FVec F S1024x256 .bf16 :=
  transpose S1024x256 [1, 0] (truncf .bf16 (rms g (shapeCast S256x1024 x shapeCasts_S1x256x1024_S256x1024)) bitsLt_bf16_f32)
    transposes_S256x1024_p1_0_S1024x256

/-- One chunk of 256 features of the query/key/value projection. -/
def proj (h : FVec F S1024x256 .bf16) (w : FVec F S256x1024 .bf16) (b : FVec F S256x1 .f32) : FVec F S256x256 .f32 :=
  addf (matmul dot_S256x1024_S1024x256_S256x256_1_0_0_1_n_n none (shapeCast S256x1024 w shapeCasts_S256x1024_S256x1024) h
      (constant S256x256 .f32 0x00000000#32))
    (broadcastTo S256x256 (shapeCast S256x1 b shapeCasts_S256x1_S256x1) broadcasts_S256x1_S256x256)

/-- The first half of a rotated head whose two halves start at rows `a` and `b` of the chunk. -/
def rotLo (c s : FVec F S32x256 .f32) (t : FVec F S256x256 .f32) (a b : ℕ) (ha : S256x256.Slices ![a, 0] S32x256)
    (hb : S256x256.Slices ![b, 0] S32x256) : FVec F S32x256 .f32 :=
  subf (mulf (extractStridedSlice S32x256 ![a, 0] t ha) c) (mulf (extractStridedSlice S32x256 ![b, 0] t hb) s)

/-- The second half of such a head. -/
def rotHi (c s : FVec F S32x256 .f32) (t : FVec F S256x256 .f32) (a b : ℕ) (ha : S256x256.Slices ![a, 0] S32x256)
    (hb : S256x256.Slices ![b, 0] S32x256) : FVec F S32x256 .f32 :=
  addf (mulf (extractStridedSlice S32x256 ![b, 0] t hb) c) (mulf (extractStridedSlice S32x256 ![a, 0] t ha) s)

/-- The rotary embedding of a chunk of four heads. -/
def rope (c s : FVec F S32x256 .f32) (t : FVec F S256x256 .f32) : FVec F S256x256 .f32 :=
  concatenate S256x256 0
    [⟨S32x256, rotLo c s t 0 32 slices_S256x256_o0_0_S32x256 slices_S256x256_o32_0_S32x256⟩,
     ⟨S32x256, rotHi c s t 0 32 slices_S256x256_o0_0_S32x256 slices_S256x256_o32_0_S32x256⟩,
     ⟨S32x256, rotLo c s t 64 96 slices_S256x256_o64_0_S32x256 slices_S256x256_o96_0_S32x256⟩,
     ⟨S32x256, rotHi c s t 64 96 slices_S256x256_o64_0_S32x256 slices_S256x256_o96_0_S32x256⟩,
     ⟨S32x256, rotLo c s t 128 160 slices_S256x256_o128_0_S32x256 slices_S256x256_o160_0_S32x256⟩,
     ⟨S32x256, rotHi c s t 128 160 slices_S256x256_o128_0_S32x256 slices_S256x256_o160_0_S32x256⟩,
     ⟨S32x256, rotLo c s t 192 224 slices_S256x256_o192_0_S32x256 slices_S256x256_o224_0_S32x256⟩,
     ⟨S32x256, rotHi c s t 192 224 slices_S256x256_o192_0_S32x256 slices_S256x256_o224_0_S32x256⟩]
    concatenates_S32x256_S32x256_S32x256_S32x256_S32x256_S32x256_S32x256_S32x256_S256x256_d0

/-- A rotated chunk of queries, scaled for the base-two exponential. -/
def qChunk (c s : FVec F S32x256 .f32) (t : FVec F S256x256 .f32) : FVec F S256x256 .bf16 :=
  truncf .bf16 (mulf (rope c s t) (broadcast S256x256 (Named.named κ "q_scale" 0x3E38AA3B#32))) bitsLt_bf16_f32

/-- The queries of a sub-tile. -/
def queries (c s : FVec F S32x256 .f32) (t0 t1 t2 t3 : FVec F S256x256 .f32) : FVec F S1024x256 .bf16 :=
  concatenate S1024x256 0 [⟨S256x256, qChunk c s t0⟩, ⟨S256x256, qChunk c s t1⟩, ⟨S256x256, qChunk c s t2⟩, ⟨S256x256, qChunk c s t3⟩]
    concatenates_S256x256_S256x256_S256x256_S256x256_S1024x256_d0

/-- The key and value chunks of a sub-tile, one above the other. -/
def keyVal (t4 t5 : FVec F S256x256 .f32) : FVec F S512x256 .f32 :=
  concatenate S512x256 0 [⟨S256x256, t4⟩, ⟨S256x256, t5⟩] concatenates_S256x256_S256x256_S512x256_d0

/-- The rotated keys of the block of 128 rows that starts at row `l` of the sub-tile. -/
def keys (c s : FVec F S32x256 .f32) (kv : FVec F S512x256 .f32) (l : ℕ) (hl : S256x256.Slices ![0, l] S256x128) :
    FVec F S128x256 .bf16 :=
  truncf .bf16 (transpose S128x256 [1, 0] (extractStridedSlice S256x128 ![0, l]
    (rope c s (extractStridedSlice S256x256 ![0, 0] kv slices_S512x256_o0_0_S256x256)) hl) transposes_S256x128_p1_0_S128x256) bitsLt_bf16_f32

/-- The values of the block of 128 rows that starts at row `l` of the sub-tile. -/
def values (kv : FVec F S512x256 .f32) (l : ℕ) (hl : S256x256.Slices ![0, l] S256x128) : FVec F S256x128 .bf16 :=
  extractStridedSlice S256x128 ![0, l]
    (truncf .bf16 (extractStridedSlice S256x256 ![256, 0] kv slices_S512x256_o256_0_S256x256) bitsLt_bf16_f32) hl

/-! ## Attention of one block of 128 queries -/

/-- Where the key is not after the query: 128 keys down, the 128 queries of four heads across. -/
def causal : IVec S128x512 1 :=
  cmpi .sle (iota .tc S128x512 32 [0] iota_S128x512_d0_w32)
    (select
      (andi (xori (cmpi .slt (remsi (iota .tc S128x512 32 [1] iota_S128x512_d1_w32) (broadcast S128x512 (Scalar.select (Scalar.cmpi .eq 128#32 0#32) 1#32 128#32)))
          (broadcast S128x512 0#32))
          (broadcastTo S128x512 (broadcast S128x512 (Scalar.cmpi .slt (Scalar.select (Scalar.cmpi .eq 128#32 0#32) 1#32 128#32) 0#32)) broadcasts_S128x512_S128x512))
        (cmpi .ne (remsi (iota .tc S128x512 32 [1] iota_S128x512_d1_w32) (broadcast S128x512 (Scalar.select (Scalar.cmpi .eq 128#32 0#32) 1#32 128#32)))
          (broadcast S128x512 0#32)))
      (addi (remsi (iota .tc S128x512 32 [1] iota_S128x512_d1_w32) (broadcast S128x512 (Scalar.select (Scalar.cmpi .eq 128#32 0#32) 1#32 128#32)))
        (broadcast S128x512 (Scalar.select (Scalar.cmpi .eq 128#32 0#32) 1#32 128#32)))
      (remsi (iota .tc S128x512 32 [1] iota_S128x512_d1_w32) (broadcast S128x512 (Scalar.select (Scalar.cmpi .eq 128#32 0#32) 1#32 128#32))))

/-- Which of its four heads a column belongs to. -/
def headOf : IVec S1x512 32 :=
  select
    (andi (cmpi .ne (subi (extui 32 (cmpi .sgt (iota .tc S1x512 32 [1] iota_S1x512_d1_w32) (broadcast S1x512 0#32)) natLt_1_32)
        (extui 32 (cmpi .slt (iota .tc S1x512 32 [1] iota_S1x512_d1_w32) (broadcast S1x512 0#32)) natLt_1_32))
        (broadcast S1x512 (Scalar.subi (Scalar.extui (Scalar.cmpi .sgt 128#32 0#32)) (Scalar.extui (Scalar.cmpi .slt 128#32 0#32)))))
      (cmpi .ne (remsi (iota .tc S1x512 32 [1] iota_S1x512_d1_w32) (broadcast S1x512 128#32)) (broadcast S1x512 0#32)))
    (subi (divsi (iota .tc S1x512 32 [1] iota_S1x512_d1_w32) (broadcast S1x512 128#32)) (broadcast S1x512 1#32))
    (divsi (iota .tc S1x512 32 [1] iota_S1x512_d1_w32) (broadcast S1x512 128#32))

/-- The four query heads `4 g` … `4 g + 3` of the block that starts at row `l`, side by side. -/
def qRow (q : FVec F S1024x256 .bf16) (r0 r1 r2 r3 l : ℕ) (h0 : S1024x256.Slices ![r0, l] S64x128) (h1 : S1024x256.Slices ![r1, l] S64x128)
    (h2 : S1024x256.Slices ![r2, l] S64x128) (h3 : S1024x256.Slices ![r3, l] S64x128) : FVec F S64x512 .bf16 :=
  concatenate S64x512 1 [⟨S64x128, extractStridedSlice S64x128 ![r0, l] q h0⟩, ⟨S64x128, extractStridedSlice S64x128 ![r1, l] q h1⟩,
    ⟨S64x128, extractStridedSlice S64x128 ![r2, l] q h2⟩, ⟨S64x128, extractStridedSlice S64x128 ![r3, l] q h3⟩]
    concatenates_S64x128_S64x128_S64x128_S64x128_S64x512_d1

/-- The 256 keys of a band (the block before, then the block itself), the two heads that start at column `cc`. -/
def band (kp kc : FVec F S128x256 .bf16) (cc : ℕ) (hc : S128x256.Slices ![0, cc] S128x128) : FVec F S256x128 .bf16 :=
  concatenate S256x128 0 [⟨S128x128, extractStridedSlice S128x128 ![0, cc] kp hc⟩, ⟨S128x128, extractStridedSlice S128x128 ![0, cc] kc hc⟩]
    concatenates_S128x128_S128x128_S256x128_d0

/-- The scores of an even key/value head: the queries above, zeros under them. -/
def scoresEven (k : FVec F S256x128 .bf16) (q : FVec F S64x512 .bf16) : FVec F S256x512 .f32 :=
  matmul dot_S256x128_S128x512_S256x512_1_0_0_1_n_n none k
    (concatenate S128x512 0 [⟨S64x512, q⟩, ⟨S64x512, broadcast S64x512 (Scalar.ofBits .bf16 0x0000#16)⟩] concatenates_S64x512_S64x512_S128x512_d0)
    (constant S256x512 .f32 0x00000000#32)

/-- The scores of an odd key/value head: zeros above, the queries under them. -/
def scoresOdd (k : FVec F S256x128 .bf16) (q : FVec F S64x512 .bf16) : FVec F S256x512 .f32 :=
  matmul dot_S256x128_S128x512_S256x512_1_0_0_1_n_n none k
    (concatenate S128x512 0 [⟨S64x512, broadcast S64x512 (Scalar.ofBits .bf16 0x0000#16)⟩, ⟨S64x512, q⟩] concatenates_S64x512_S64x512_S128x512_d0)
    (constant S256x512 .f32 0x00000000#32)

/-- The scores against the block before. -/
def scorePrev (s : FVec F S256x512 .f32) : FVec F S128x512 .f32 := extractStridedSlice S128x512 ![0, 0] s slices_S256x512_o0_0_S128x512

/-- The sinks of the four heads, each over its 128 columns, scaled for the base-two exponential. -/
def sinkRow (s0 s1 s2 s3 : F .f32) : FVec F S1x512 .f32 :=
  mulf (select (cmpi .eq headOf (broadcast S1x512 3#32)) (broadcast S1x512 s3)
    (select (cmpi .eq headOf (broadcast S1x512 2#32)) (broadcast S1x512 s2)
    (select (cmpi .eq headOf (broadcast S1x512 1#32)) (broadcast S1x512 s1)
    (select (cmpi .eq headOf (broadcast S1x512 0#32)) (broadcast S1x512 s0) (broadcast S1x512 (Scalar.ofBits .f32 0x00000000#32))))))
    (broadcast S1x512 (Named.named κ "log2e" 0x3FB8AA3B#32))

/-- The score each query keeps of its band: the block's own key where that is not after the query, else the key 128
    rows before. -/
def kept (sp : FVec F S128x512 .f32) (s : FVec F S256x512 .f32) : FVec F S128x512 .f32 :=
  select causal (extractStridedSlice S128x512 ![128, 0] s slices_S256x512_o128_0_S128x512) sp

/-- The larger of the largest score and the sink. -/
def peak (k : FVec F S128x512 .f32) (sink : FVec F S1x512 .f32) : FVec F S1x512 .f32 :=
  maximumf (shapeCast S1x512 (multiReduction .maximumf [0] S512 k 0xFF800000#32 reduces_S128x512_S512 (.inl rfl) rfl) shapeCasts_S512_S1x512) sink

/-- The exponentials of the scores. -/
def expo (k : FVec F S128x512 .f32) (sink : FVec F S1x512 .f32) : FVec F S128x512 .f32 :=
  exp2 (subf k (broadcastTo S128x512 (peak k sink) broadcasts_S1x512_S128x512))

/-- The denominators. -/
def denom (k : FVec F S128x512 .f32) (sink : FVec F S1x512 .f32) : FVec F S1x512 .f32 :=
  addf (shapeCast S1x512 (multiReduction .add [0] S512 (expo k sink) 0x00000000#32 reduces_S128x512_S512 (.inl rfl) rfl) shapeCasts_S512_S1x512)
    (exp2 (subf sink (peak k sink)))

/-- The weights of the band: the kept exponentials back at their keys, zeros elsewhere. -/
def weights (k : FVec F S128x512 .f32) (sink : FVec F S1x512 .f32) : FVec F S256x512 .bf16 :=
  truncf .bf16 (concatenate S256x512 0
    [⟨S128x512, select causal (broadcast S128x512 (Scalar.ofBits .f32 0x00000000#32)) (expo k sink)⟩,
     ⟨S128x512, select causal (expo k sink) (broadcast S128x512 (Scalar.ofBits .f32 0x00000000#32))⟩]
    concatenates_S128x512_S128x512_S256x512_d0) bitsLt_bf16_f32

/-- The values of the band, the head that starts at row `r`. -/
def bandV (vp vc : FVec F S256x128 .bf16) (r : ℕ) (hr : S256x128.Slices ![r, 0] S64x128) : FVec F S64x256 .bf16 :=
  concatenate S64x256 1 [⟨S64x128, extractStridedSlice S64x128 ![r, 0] vp hr⟩, ⟨S64x128, extractStridedSlice S64x128 ![r, 0] vc hr⟩]
    concatenates_S64x128_S64x128_S64x256_d1

/-- What the four heads of one key/value head attend to. -/
def attend (sp : FVec F S128x512 .f32) (s : FVec F S256x512 .f32) (sink : FVec F S1x512 .f32) (v : FVec F S64x256 .bf16) : FVec F S64x512 .f32 :=
  mulf (matmul dot_S64x256_S256x512_S64x512_1_0_0_1_n_n none v (weights (kept sp s) sink) (constant S64x512 .f32 0x00000000#32))
    (broadcastTo S64x512 (divf (broadcast S1x512 (Scalar.ofBits .f32 0x3F800000#32)) (denom (kept sp s) sink)) broadcasts_S1x512_S64x512)

theorem headSlice (n : Fin 16) : S64x512.Slices ![0, 128 * (n.val % 4)] S64x128 := by
  revert n; decide

/-- Head `n` of the sixteen: 128 columns of the unit of its key/value head. -/
def headAt (u : Fin 4 → FVec F S64x512 .f32) (n : Fin 16) : FVec F S64x128 .f32 :=
  extractStridedSlice S64x128 ![0, 128 * (n.val % 4)] (u ⟨n.val / 4, by omega⟩) (headSlice n)

theorem headsFit (u : Fin 4 → FVec F S64x512 .f32) : Shape.Concatenates ((List.ofFn fun n : Fin 16 =>
    (⟨S64x128, headAt u n⟩ : (s : Shape) × (s.Idx → F .f32))).map (·.1)) S1024x128 0 :=
  concatenates_S64x128_S64x128_S64x128_S64x128_S64x128_S64x128_S64x128_S64x128_S64x128_S64x128_S64x128_S64x128_S64x128_S64x128_S64x128_S64x128_S1024x128_d0

/-- The sixteen heads one under the other: the block's attention output. -/
def heads (u : Fin 4 → FVec F S64x512 .f32) : FVec F S1024x128 .bf16 :=
  truncf .bf16 (concatenate S1024x128 0 (List.ofFn fun n : Fin 16 => (⟨S64x128, headAt u n⟩ : (s : Shape) × (s.Idx → F .f32))) (headsFit u))
    bitsLt_bf16_f32

/-! ## The output projection and the second scaling -/

/-- The two blocks of a sub-tile, rows down again. -/
def rowsOf (o0 o1 : FVec F S1024x128 .bf16) : FVec F S256x1024 .bf16 :=
  transpose S256x1024 [1, 0] (concatenate S1024x256 1 [⟨S1024x128, o0⟩, ⟨S1024x128, o1⟩] concatenates_S1024x128_S1024x128_S1024x256_d1)
    transposes_S1024x256_p1_0_S256x1024

/-- One chunk of 256 columns of the output projection. -/
def outChunk (o : FVec F S256x1024 .bf16) (w : FVec F S1024x256 .bf16) (b : FVec F S1x256 .f32) : FVec F S256x256 .f32 :=
  addf (matmul dot_S256x1024_S1024x256_S256x256_1_0_0_1_n_n none o (shapeCast S1024x256 w shapeCasts_S1024x256_S1024x256)
      (constant S256x256 .f32 0x00000000#32))
    (broadcastTo S256x256 (shapeCast S1x256 b shapeCasts_S1x256_S1x256) broadcasts_S1x256_S256x256)

/-- The sub-tile's result: its rows plus the scaled projection. -/
def finish (g : FVec F S1x1024 .f32) (x : FVec F S1x256x1024 .f32) (y0 y1 y2 y3 : FVec F S256x256 .f32) : FVec F S1x256x1024 .f32 :=
  shapeCast S1x256x1024 (addf (shapeCast S256x1024 x shapeCasts_S1x256x1024_S256x1024)
    (rms g (concatenate S256x1024 1 [⟨S256x256, y0⟩, ⟨S256x256, y1⟩, ⟨S256x256, y2⟩, ⟨S256x256, y3⟩]
      concatenates_S256x256_S256x256_S256x256_S256x256_S256x1024_d1))) shapeCasts_S256x1024_S1x256x1024

end Cert.KernelIdeal.Attn

end
-- ==== Proof.Tile.lean ====
module

public import proofs.«01_k».proof.Proof.Body
public import proofs.«01_k».proof.Proof.Gen.KernelIdeal.Frame.RunA

/-! One grid point of the attention kernel, composed from the stages over the values it loads. -/

@[expose] public section

noncomputable section

namespace Cert.KernelIdeal.Attn

open Idealize.ShloMosaic Idealize.SL.Sem Cert.KernelIdeal.Gen

variable {F : FTy → Type} [FloatOps F] [Named F]

/-- What one grid point loads: the two gains, four sub-tiles of rows, six chunks of projection weights and biases,
    the four lane ranges of the cosine and sine tables, sixteen sinks, four chunks of output weights and biases, the
    keys and values carried from the point before, and what is added to the scores against them. -/
structure Loads (F : FTy → Type) where
  g : FVec F S1x1024 .f32
  gp : FVec F S1x1024 .f32
  x : Fin 4 → FVec F S1x256x1024 .f32
  w : Fin 6 → FVec F S256x1024 .bf16
  b : Fin 6 → FVec F S256x1 .f32
  c : Fin 4 → FVec F S32x256 .f32
  s : Fin 4 → FVec F S32x256 .f32
  sk : Fin 16 → F .f32
  wo : Fin 4 → FVec F S1024x256 .bf16
  bo : Fin 4 → FVec F S1x256 .f32
  kp : FVec F S128x256 .bf16
  vp : FVec F S256x128 .bf16
  neg : F .f32

namespace Loads

variable (L : Loads F)

def cos (t : Fin 4) : FVec F S32x256 .f32 := shapeCast S32x256 (L.c t) shapeCasts_S32x256_S32x256
def sin (t : Fin 4) : FVec F S32x256 .f32 := shapeCast S32x256 (L.s t) shapeCasts_S32x256_S32x256

/-- Chunk `k` of the projection of sub-tile `t`. -/
def pj (t : Fin 4) (k : Fin 6) : FVec F S256x256 .f32 :=
  proj (normT (shapeCast S1x1024 L.g shapeCasts_S1x1024_S1x1024) (L.x t)) (L.w k) (L.b k)

def q (t : Fin 4) : FVec F S1024x256 .bf16 := queries (L.cos t) (L.sin t) (L.pj t 0) (L.pj t 1) (L.pj t 2) (L.pj t 3)

def kv (t : Fin 4) : FVec F S512x256 .f32 := keyVal (L.pj t 4) (L.pj t 5)

theorem lanes (i : Fin 2) : S256x256.Slices ![0, 128 * i.val] S256x128 := by
  revert i; decide

/-- The keys of block `i` of sub-tile `t`. -/
def kBlk (t : Fin 4) (i : Fin 2) : FVec F S128x256 .bf16 := keys (L.cos t) (L.sin t) (L.kv t) (128 * i.val) (lanes i)

/-- The values of block `i` of sub-tile `t`. -/
def vBlk (t : Fin 4) (i : Fin 2) : FVec F S256x128 .bf16 := values (L.kv t) (128 * i.val) (lanes i)

/-- The keys of the block before block `i` of sub-tile `t`. -/
def kBefore (t : Fin 4) (i : Fin 2) : FVec F S128x256 .bf16 :=
  if i = 1 then L.kBlk t 0 else if t = 0 then L.kp else L.kBlk (t - 1) 1

/-- The values of the block before. -/
def vBefore (t : Fin 4) (i : Fin 2) : FVec F S256x128 .bf16 :=
  if i = 1 then L.vBlk t 0 else if t = 0 then L.vp else L.vBlk (t - 1) 1

theorem qSlice (g : Fin 4) (h : Fin 4) (i : Fin 2) : S1024x256.Slices ![256 * g.val + 64 * h.val, 128 * i.val] S64x128 := by
  revert g h i; decide

theorem kSlice (g : Fin 4) : S128x256.Slices ![0, 128 * (g.val / 2)] S128x128 := by
  revert g; decide

theorem vSlice (g : Fin 4) : S256x128.Slices ![64 * g.val, 0] S64x128 := by
  revert g; decide

def skIx (g h : Fin 4) : Fin 16 := ⟨4 * g.val + h.val, by omega⟩

/-- The scores of key/value head `g` in block `i` of sub-tile `t`. -/
def score (t : Fin 4) (i : Fin 2) (g : Fin 4) : FVec F S256x512 .f32 :=
  if g.val % 2 = 0 then
    scoresEven (band (L.kBefore t i) (L.kBlk t i) (128 * (g.val / 2)) (kSlice g))
      (qRow (L.q t) (256 * g.val + 64 * (0 : Fin 4).val) (256 * g.val + 64 * (1 : Fin 4).val) (256 * g.val + 64 * (2 : Fin 4).val)
        (256 * g.val + 64 * (3 : Fin 4).val) (128 * i.val) (qSlice g 0 i) (qSlice g 1 i) (qSlice g 2 i) (qSlice g 3 i))
  else
    scoresOdd (band (L.kBefore t i) (L.kBlk t i) (128 * (g.val / 2)) (kSlice g))
      (qRow (L.q t) (256 * g.val + 64 * (0 : Fin 4).val) (256 * g.val + 64 * (1 : Fin 4).val) (256 * g.val + 64 * (2 : Fin 4).val)
        (256 * g.val + 64 * (3 : Fin 4).val) (128 * i.val) (qSlice g 0 i) (qSlice g 1 i) (qSlice g 2 i) (qSlice g 3 i))

/-- The scores against the block before; before the first block of a sequence they are minus infinity. -/
def prev (t : Fin 4) (i : Fin 2) (g : Fin 4) : FVec F S128x512 .f32 :=
  if t = 0 then if i = 0 then addf (scorePrev (L.score t i g)) (broadcast S128x512 L.neg) else scorePrev (L.score t i g)
  else scorePrev (L.score t i g)

/-- What the four heads of key/value head `g` attend to in block `i` of sub-tile `t`. -/
def unit (t : Fin 4) (i : Fin 2) (g : Fin 4) : FVec F S64x512 .f32 :=
  attend (L.prev t i g) (L.score t i g) (sinkRow (L.sk (skIx g 0)) (L.sk (skIx g 1)) (L.sk (skIx g 2)) (L.sk (skIx g 3)))
    (bandV (L.vBefore t i) (L.vBlk t i) (64 * g.val) (vSlice g))

def o (t : Fin 4) : FVec F S256x1024 .bf16 :=
  rowsOf (heads (L.unit t 0)) (heads (L.unit t 1))

/-- The result rows of sub-tile `t`. -/
def out (t : Fin 4) : FVec F S1x256x1024 .f32 :=
  finish (shapeCast S1x1024 L.gp shapeCasts_S1x1024_S1x1024) (L.x t) (outChunk (L.o t) (L.wo 0) (L.bo 0)) (outChunk (L.o t) (L.wo 1) (L.bo 1))
    (outChunk (L.o t) (L.wo 2) (L.bo 2)) (outChunk (L.o t) (L.wo 3) (L.bo 3))

end Loads

theorem inbX (t : Fin 4) : ∀ a, (![0, 256 * t.val, 0] : Fin 3 → ℕ) a + S1x256x1024.size a ≤ S1x1024x1024.size a := by
  revert t; decide
theorem inbW (k : Fin 6) : ∀ a, (![256 * k.val, 0] : Fin 2 → ℕ) a + S256x1024.size a ≤ S1536x1024.size a := by
  revert k; decide
theorem inbB (k : Fin 6) : ∀ a, (![256 * k.val, 0] : Fin 2 → ℕ) a + S256x1.size a ≤ S1536x1.size a := by
  revert k; decide
theorem inbC (t : Fin 4) : ∀ a, (![0, 256 * t.val] : Fin 2 → ℕ) a + S32x256.size a ≤ S32x1024.size a := by
  revert t; decide
theorem inbS (h : Fin 16) : ∀ a, (![h.val] : Fin 1 → ℕ) a + S1.size a ≤ S16.size a := by
  revert h; decide
theorem inbO (n : Fin 4) : ∀ a, (![0, 256 * n.val] : Fin 2 → ℕ) a + S1024x256.size a ≤ S1024x1024.size a := by
  revert n; decide
theorem inbP (n : Fin 4) : ∀ a, (![0, 256 * n.val] : Fin 2 → ℕ) a + S1x256.size a ≤ S1x1024.size a := by
  revert n; decide
theorem inbG : ∀ a, (![0, 0] : Fin 2 → ℕ) a + S1x1024.size a ≤ S1x1024.size a := by decide

/-- The loads of a grid point from its blocks, given the carried keys and values. -/
def loadsOf (arg1 : BitVec 32) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32)
    (kp : FVec F S128x256 .bf16) (vp : FVec F S256x128 .bf16) : Loads F where
  g := View.readAt (Elt F) arg4.view (Rect.unit (s := S1x1024) ![0, 0] S1x1024.size inbG).toLoadRect (harg4.unread x2)
  gp := View.readAt (Elt F) arg5.view (Rect.unit (s := S1x1024) ![0, 0] S1x1024.size inbG).toLoadRect (harg5.unread x3)
  x t := View.readAt (Elt F) arg3.view (Rect.unit (s := S1x1024x1024) ![0, 256 * t.val, 0] S1x256x1024.size (inbX t)).toLoadRect (harg3.unread x1)
  w k := View.readAt (Elt F) arg6.view (Rect.unit (s := S1536x1024) ![256 * k.val, 0] S256x1024.size (inbW k)).toLoadRect (harg6.unread x4)
  b k := View.readAt (Elt F) arg7.view (Rect.unit (s := S1536x1) ![256 * k.val, 0] S256x1.size (inbB k)).toLoadRect (harg7.unread x5)
  c t := View.readAt (Elt F) arg8.view (Rect.unit (s := S32x1024) ![0, 256 * t.val] S32x256.size (inbC t)).toLoadRect (harg8.unread x6)
  s t := View.readAt (Elt F) arg9.view (Rect.unit (s := S32x1024) ![0, 256 * t.val] S32x256.size (inbC t)).toLoadRect (harg9.unread x7)
  sk h := View.readAt (Elt F) arg2.view (Rect.unit (s := S16) ![h.val] S1.size (inbS h)).toLoadRect (harg2.unread x0) (Shape.Idx.first (by decide : 0 < S1.numel))
  wo n := View.readAt (Elt F) arg10.view (Rect.unit (s := S1024x1024) ![0, 256 * n.val] S1024x256.size (inbO n)).toLoadRect (harg10.unread x8)
  bo n := View.readAt (Elt F) arg11.view (Rect.unit (s := S1x1024) ![0, 256 * n.val] S1x256.size (inbP n)).toLoadRect (harg11.unread x9)
  kp := kp
  vp := vp
  neg := k0_pay13 arg1

end Cert.KernelIdeal.Attn

end
-- ==== Proof.Softmax.lean ====
module

public import Idealize.ShloMosaic.Lib.Pointwise

/-! The attention of one query over its band of 256 keys, in the two forms the kernel and the reference compute.

A query at offset `q` of its block sees the keys of its own block up to itself and those of the block before after
itself, 128 in all. The reference masks 256 scores with minus infinity. The kernel keeps the 128 it sees and scales them
by `1 / log 2`, so that the base-two exponential stands for the natural one; it divides after the sum over the values,
the reference before. -/

@[expose] public section

set_option maxRecDepth 16384

noncomputable section

namespace Cert.Attn

open Idealize.ShloMosaic

/-! ## Facts about extended reals -/

/-- A real factor that is not negative moves into a sum. -/
theorem sum_mul_real {ι : Type*} (s : Finset ι) (f : ι → EReal) (r : ℝ) (hr : 0 ≤ r) : (∑ i ∈ s, f i) * (r : EReal) = ∑ i ∈ s, f i * r := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A finite sum of reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) (d : ℝ) (hd : 0 < d) : Ideal.div x d = x * ((d⁻¹ : ℝ) : EReal) := by
  unfold Ideal.div
  rw [if_neg (by exact_mod_cast hd.ne')]
  rfl

/-- The exponential at a difference with a real is a real that is not negative, unless the first is plus infinity. -/
theorem exp_sub_real (x : EReal) (hx : x ≠ ⊤) (m : ℝ) : ∃ r : ℝ, 0 ≤ r ∧ Ideal.exp (x - m) = r := by
  induction x using EReal.rec with
  | bot => exact ⟨0, le_rfl, by rw [EReal.bot_sub, Ideal.exp_bot]; rfl⟩
  | top => exact absurd rfl hx
  | coe x => exact ⟨Real.exp (x - m), (Real.exp_pos _).le, by rw [← EReal.coe_sub]; rfl⟩

/-- The base-two exponential of a difference scaled by `1 / log 2` is the natural exponential of the difference. -/
theorem exp2_scaled (x : EReal) (hx : x ≠ ⊤) (m : ℝ) :
    Ideal.exp2 (x * ((Real.log 2)⁻¹ : ℝ) - (m : EReal) * ((Real.log 2)⁻¹ : ℝ)) = Ideal.exp (x - m) := by
  have hl : 0 < Real.log 2 := Real.log_pos (by norm_num)
  induction x using EReal.rec with
  | bot => rw [EReal.bot_mul_coe_of_pos (inv_pos.2 hl)]; rw [← EReal.coe_mul, EReal.bot_sub, EReal.bot_sub, Ideal.exp_bot, Ideal.exp2_bot]
  | top => exact absurd rfl hx
  | coe x =>
    rw [← EReal.coe_mul, ← EReal.coe_mul, ← EReal.coe_sub, ← EReal.coe_sub]
    show ((Real.rpow 2 _ : ℝ) : EReal) = (Real.exp _ : ℝ)
    congr 1
    rw [Real.rpow_eq_pow, Real.rpow_def_of_pos (by norm_num)]
    congr 1
    field_simp

theorem div_top (x : ℝ) (hx : 0 < x) : Ideal.div ⊤ x = ⊤ := by
  rw [div_real _ _ hx, EReal.top_mul_coe_of_pos (inv_pos.2 hx)]

/-! ## The two forms -/

/-- The scores the kernel keeps: `a` the 256 products already scaled, `neg` what is added to those of the block
    before. -/
def keptScore (a : Fin 256 → EReal) (neg : EReal) (q k : Fin 128) : EReal :=
  if k.val ≤ q.val then a ⟨128 + k.val, by omega⟩ else a ⟨k.val, by omega⟩ + neg

/-- The kernel's maximum. -/
def kerPeak (a : Fin 256 → EReal) (neg sink : EReal) (q : Fin 128) : EReal :=
  max (Finset.fold max ⊥ (keptScore a neg q) Finset.univ) sink

def kerExp (a : Fin 256 → EReal) (neg sink : EReal) (q k : Fin 128) : EReal := Ideal.exp2 (keptScore a neg q k - kerPeak a neg sink q)

def kerDen (a : Fin 256 → EReal) (neg sink : EReal) (q : Fin 128) : EReal :=
  ∑ k, kerExp a neg sink q k + Ideal.exp2 (sink - kerPeak a neg sink q)

def kerWeight (a : Fin 256 → EReal) (neg sink : EReal) (q : Fin 128) (k : Fin 256) : EReal :=
  if h : k.val < 128 then (if k.val ≤ q.val then 0 else kerExp a neg sink q ⟨k.val, h⟩)
  else (if k.val - 128 ≤ q.val then kerExp a neg sink q ⟨k.val - 128, by omega⟩ else 0)

/-- What the kernel computes for one query and one coordinate of the values. -/
def kerAttend (a : Fin 256 → EReal) (neg sink : EReal) (v : Fin 256 → EReal) (q : Fin 128) : EReal :=
  (∑ k, v k * kerWeight a neg sink q k) * Ideal.div 1 (kerDen a neg sink q)

/-- The reference's masked scores: `first` says there is no block before. -/
def maskedScore (s : Fin 256 → EReal) (first : Prop) [Decidable first] (q : Fin 128) (k : Fin 256) : EReal :=
  if k.val ≤ q.val + 128 ∧ q.val < k.val ∧ (first → 128 ≤ k.val) then s k else ⊥

def refPeak (s : Fin 256 → EReal) (first : Prop) [Decidable first] (sink : EReal) (q : Fin 128) : EReal :=
  max (Finset.fold max ⊥ (maskedScore s first q) Finset.univ) sink

def refExp (s : Fin 256 → EReal) (first : Prop) [Decidable first] (sink : EReal) (q : Fin 128) (k : Fin 256) : EReal :=
  Ideal.exp (maskedScore s first q k - refPeak s first sink q)

def refDen (s : Fin 256 → EReal) (first : Prop) [Decidable first] (sink : EReal) (q : Fin 128) : EReal :=
  ∑ k, refExp s first sink q k + Ideal.exp (sink - refPeak s first sink q)

/-- What the reference computes. -/
def refAttend (s : Fin 256 → EReal) (first : Prop) [Decidable first] (sink : EReal) (v : Fin 256 → EReal) (q : Fin 128) : EReal :=
  ∑ k, v k * Ideal.div (refExp s first sink q k) (refDen s first sink q)

/-- The score of the one key at offset `k` that query `q` sees, in the reference's scale. -/
def seen (s : Fin 256 → ℝ) (first : Prop) [Decidable first] (q k : Fin 128) : EReal :=
  if k.val ≤ q.val then (s ⟨128 + k.val, by omega⟩ : EReal) else if first then ⊥ else (s ⟨k.val, by omega⟩ : EReal)

section

variable (s : Fin 256 → ℝ) (first : Prop) [Decidable first] (σ : ℝ) (q : Fin 128)

theorem seen_ne_top (k : Fin 128) : seen s first q k ≠ ⊤ := by
  unfold seen
  split_ifs <;> simp

theorem masked_prev (k : Fin 256) (h : k.val < 128) :
    maskedScore (fun k => (s k : EReal)) first q k = if k.val ≤ q.val then ⊥ else seen s first q ⟨k.val, h⟩ := by
  unfold maskedScore seen
  by_cases h1 : k.val ≤ q.val
  · rw [if_neg (by omega), if_pos h1]
  · by_cases h2 : first
    · simp only [h1, h2, if_false, if_true]
      rw [if_neg]
      rintro ⟨-, -, h3⟩
      exact absurd (h3 trivial) (by omega)
    · simp only [h1, h2, if_false]
      rw [if_pos ⟨by omega, by omega, fun h => h.elim⟩]

theorem masked_own (k : Fin 256) (h : ¬ k.val < 128) :
    maskedScore (fun k => (s k : EReal)) first q k = if k.val - 128 ≤ q.val then seen s first q ⟨k.val - 128, by omega⟩ else ⊥ := by
  unfold maskedScore seen
  by_cases h1 : k.val - 128 ≤ q.val
  · rw [if_pos ⟨by omega, by omega, fun _ => by omega⟩, if_pos h1, if_pos h1]
    congr 2
    ext
    simp only
    omega
  · rw [if_neg (by omega), if_neg h1]

/-- The two maxima over the scores agree before scaling. -/
theorem refPeak_eq : refPeak (fun k => (s k : EReal)) first σ q = max (Finset.fold max ⊥ (seen s first q) Finset.univ) σ := by
  unfold refPeak
  congr 1
  apply le_antisymm
  · rw [Finset.fold_max_le]
    refine ⟨bot_le, fun k _ => ?_⟩
    by_cases h : k.val < 128
    · rw [masked_prev s first q k h]
      split_ifs
      · exact bot_le
      · rw [Finset.le_fold_max]; exact .inr ⟨_, Finset.mem_univ _, le_rfl⟩
    · rw [masked_own s first q k h]
      split_ifs
      · rw [Finset.le_fold_max]; exact .inr ⟨_, Finset.mem_univ _, le_rfl⟩
      · exact bot_le
  · rw [Finset.fold_max_le]
    refine ⟨bot_le, fun k _ => ?_⟩
    rw [Finset.le_fold_max]
    by_cases h : k.val ≤ q.val
    · refine .inr ⟨⟨128 + k.val, by omega⟩, Finset.mem_univ _, ?_⟩
      rw [masked_own s first q _ (by simp)]
      simp [h]
    · refine .inr ⟨⟨k.val, by omega⟩, Finset.mem_univ _, ?_⟩
      rw [masked_prev s first q _ (by simp), if_neg (by simpa using h)]

theorem refPeak_real : ∃ m : ℝ, refPeak (fun k => (s k : EReal)) first σ q = m := by
  rw [refPeak_eq]
  have h1 : max (Finset.fold max ⊥ (seen s first q) Finset.univ) (σ : EReal) ≠ ⊥ :=
    (lt_of_lt_of_le (EReal.bot_lt_coe σ) (le_max_right _ _)).ne'
  have h2 : max (Finset.fold max ⊥ (seen s first q) Finset.univ) (σ : EReal) ≠ ⊤ := by
    apply ne_of_lt
    rw [max_lt_iff, Finset.fold_max_lt]
    exact ⟨⟨bot_lt_top, fun k _ => lt_top_iff_ne_top.2 (seen_ne_top s first q k)⟩, EReal.coe_lt_top σ⟩
  exact ⟨_, (EReal.coe_toReal h2 h1).symm⟩

variable (a : Fin 256 → EReal) (neg : EReal)
  (ha : ∀ k, a k = (s k : EReal) * ((Real.log 2)⁻¹ : ℝ)) (hneg : neg = if first then ⊥ else 0)

include ha hneg

theorem kept_eq (k : Fin 128) : keptScore a neg q k = seen s first q k * ((Real.log 2)⁻¹ : ℝ) := by
  have hl : 0 < (Real.log 2)⁻¹ := inv_pos.2 (Real.log_pos (by norm_num))
  unfold keptScore seen
  rw [hneg]
  by_cases h1 : k.val ≤ q.val
  · rw [if_pos h1, if_pos h1, ha]
  · rw [if_neg h1, if_neg h1, ha]
    by_cases h2 : first
    · rw [if_pos h2, if_pos h2, EReal.bot_mul_coe_of_pos hl, EReal.add_bot]
    · rw [if_neg h2, if_neg h2, add_zero]

theorem kerPeak_eq : kerPeak a neg ((σ : EReal) * ((Real.log 2)⁻¹ : ℝ)) q
    = refPeak (fun k => (s k : EReal)) first σ q * ((Real.log 2)⁻¹ : ℝ) := by
  have hl : 0 < (Real.log 2)⁻¹ := inv_pos.2 (Real.log_pos (by norm_num))
  have hmono : Monotone fun x : EReal => x * (((Real.log 2)⁻¹ : ℝ) : EReal) :=
    fun x y h => mul_le_mul_of_nonneg_right h (by exact_mod_cast hl.le)
  rw [refPeak_eq, hmono.map_max]
  unfold kerPeak
  congr 1
  have : (⊥ : EReal) = (fun x : EReal => x * (((Real.log 2)⁻¹ : ℝ) : EReal)) ⊥ := (EReal.bot_mul_coe_of_pos hl).symm
  conv_lhs => rw [this]
  rw [show keptScore a neg q = fun k => (fun x : EReal => x * (((Real.log 2)⁻¹ : ℝ) : EReal)) (seen s first q k) from
    funext fun k => kept_eq s first q a neg ha hneg k]
  exact Finset.fold_hom (op := max) (op' := max) (m := fun x : EReal => x * (((Real.log 2)⁻¹ : ℝ) : EReal)) (fun x y => hmono.map_max)

theorem kerExp_eq (k : Fin 128) : kerExp a neg ((σ : EReal) * ((Real.log 2)⁻¹ : ℝ)) q k
    = Ideal.exp (seen s first q k - refPeak (fun k => (s k : EReal)) first σ q) := by
  obtain ⟨m, hm⟩ := refPeak_real s first σ q
  unfold kerExp
  rw [kerPeak_eq s first σ q a neg ha hneg, kept_eq s first q a neg ha hneg, hm, exp2_scaled _ (seen_ne_top s first q k)]

theorem kerWeight_eq (k : Fin 256) : kerWeight a neg ((σ : EReal) * ((Real.log 2)⁻¹ : ℝ)) q k
    = refExp (fun k => (s k : EReal)) first σ q k := by
  obtain ⟨m, hm⟩ := refPeak_real s first σ q
  unfold kerWeight refExp
  by_cases h : k.val < 128
  · rw [dif_pos h, masked_prev s first q k h, kerExp_eq s first σ q a neg ha hneg]
    split_ifs
    · rw [EReal.bot_sub, Ideal.exp_bot]
    · rfl
  · rw [dif_neg h, masked_own s first q k h, kerExp_eq s first σ q a neg ha hneg]
    split_ifs
    · rfl
    · rw [EReal.bot_sub, Ideal.exp_bot]

theorem kerDen_eq : kerDen a neg ((σ : EReal) * ((Real.log 2)⁻¹ : ℝ)) q = refDen (fun k => (s k : EReal)) first σ q := by
  obtain ⟨m, hm⟩ := refPeak_real s first σ q
  unfold kerDen refDen
  congr 1
  · simp only [← kerWeight_eq s first σ q a neg ha hneg]
    refine Eq.trans ?_ (Fin.sum_univ_add (a := 128) (b := 128) (kerWeight a neg ((σ : EReal) * ((Real.log 2)⁻¹ : ℝ)) q)).symm
    rw [← Finset.sum_add_distrib]
    refine Finset.sum_congr rfl fun k _ => ?_
    unfold kerWeight
    simp only [Fin.val_castAdd, Fin.val_natAdd, k.isLt, dif_pos, show ¬ (128 + k.val < 128) by omega, dif_neg, not_false_eq_true, add_tsub_cancel_left]
    split_ifs <;> simp
  · rw [kerPeak_eq s first σ q a neg ha hneg, hm, exp2_scaled _ (EReal.coe_ne_top σ)]

/-- The kernel's form equals the reference's. -/
theorem kerAttend_eq (v : Fin 256 → EReal) : kerAttend a neg ((σ : EReal) * ((Real.log 2)⁻¹ : ℝ)) v q
    = refAttend (fun k => (s k : EReal)) first σ v q := by
  obtain ⟨m, hm⟩ := refPeak_real s first σ q
  have hpos : ∃ d : ℝ, 0 < d ∧ refDen (fun k => (s k : EReal)) first σ q = d := by
    unfold refDen
    have hr : ∀ k, ∃ r : ℝ, 0 ≤ r ∧ refExp (fun k => (s k : EReal)) first σ q k = r := fun k => by
      unfold refExp
      rw [hm]
      exact exp_sub_real _ (by unfold maskedScore; split_ifs <;> simp) m
    choose r hr0 hr using hr
    refine ⟨∑ k, r k + Real.exp (σ - m), add_pos_of_nonneg_of_pos (Finset.sum_nonneg fun k _ => hr0 k) (Real.exp_pos _), ?_⟩
    rw [EReal.coe_add, coe_sum, hm, ← EReal.coe_sub]
    simp only [hr]
    rfl
  obtain ⟨d, hd, hden⟩ := hpos
  unfold kerAttend refAttend
  rw [kerDen_eq s first σ q a neg ha hneg, hden, div_real _ _ hd, one_mul, sum_mul_real _ _ _ (inv_pos.2 hd).le]
  refine Finset.sum_congr rfl fun k _ => ?_
  rw [div_real _ _ hd, kerWeight_eq s first σ q a neg ha hneg, mul_assoc]

end

end Cert.Attn

end
-- ==== Proof.Spec.lean ====
module

public import proofs.«01_k».proof.Proof.Softmax

/-! The attention layer of one sequence over extended reals, position by position.

Arrays are functions of natural numbers, so that two ways of computing the same position need no proof that they are in
range. `oKer` is the attention output in the kernel's form, `oRef` in the reference's. -/

@[expose] public section

set_option maxRecDepth 16384

noncomputable section

namespace Cert.Attn

open Idealize.ShloMosaic

/-- A row scaled by the root of its mean square plus epsilon, times a gain. -/
def norm (u g : ℕ → EReal) (e : ℕ) : EReal :=
  u e * Ideal.rsqrt (Ideal.div (∑ i : Fin 1024, u i.val * u i.val) (Ideal.ofBits .f32 1149239296#32) + Ideal.ofBits .f32 897988541#32) * g e

/-- The rotary embedding of a row `f` whose heads are 64 columns wide. -/
def rotCol (f c s : ℕ → EReal) (i : ℕ) : EReal :=
  if i % 64 < 32 then f i * c (i % 64) - f (i + 32) * s (i % 64) else f i * c (i % 64 - 32) + f (i - 32) * s (i % 64 - 32)

/-- The arrays of the layer for one sequence. -/
structure Par where
  x : ℕ → ℕ → EReal
  g : ℕ → EReal
  gp : ℕ → EReal
  w : ℕ → ℕ → EReal
  b : ℕ → EReal
  sk : ℕ → EReal
  wo : ℕ → ℕ → EReal
  bo : ℕ → EReal
  c : ℕ → ℕ → EReal
  s : ℕ → ℕ → EReal

namespace Par

variable (p : Par)

def hid (s e : ℕ) : EReal := norm (p.x s) p.g e

/-- Column `i` of the query/key/value projection at position `s`. -/
def qkv (s i : ℕ) : EReal := ∑ e : Fin 1024, p.hid s e.val * p.w e.val i + p.b i

/-- The rotated projection. -/
def rot (s i : ℕ) : EReal := rotCol (p.qkv s) (p.c s) (p.s s) i

/-- Key `k` of the band of block `n`: the block before, then the block; before the first block the keys are zero. -/
def keyAt (n k i : ℕ) : EReal :=
  if k < 128 then (if n = 0 then 0 else p.rot (128 * (n - 1) + k) (1024 + i)) else p.rot (128 * n + (k - 128)) (1024 + i)

/-- Value `k` of the band of block `n`. -/
def valAt (n k i : ℕ) : EReal :=
  if k < 128 then (if n = 0 then 0 else p.qkv (128 * (n - 1) + k) (1280 + i)) else p.qkv (128 * n + (k - 128)) (1280 + i)

/-- The product of query head `h` at offset `q` of block `n` with key `k` of the band. -/
def dot (n q h k : ℕ) : EReal := ∑ d : Fin 64, p.keyAt n k (64 * (h / 4) + d.val) * p.rot (128 * n + q) (64 * h + d.val)

/-- The same product with the query scaled by `1 / (8 log 2)`. -/
def kerDot (n q h k : ℕ) : EReal :=
  ∑ d : Fin 64, p.keyAt n k (64 * (h / 4) + d.val) * (p.rot (128 * n + q) (64 * h + d.val) * (((8 * Real.log 2)⁻¹ : ℝ) : EReal))

/-- One head's output at block `n`, offset `q`, coordinate `d`, the kernel's way. -/
def kerHead (n : ℕ) (q : Fin 128) (h d : ℕ) : EReal :=
  kerAttend (fun k => p.kerDot n q.val h k.val) (if n = 0 then ⊥ else 0) (p.sk h * (((Real.log 2)⁻¹ : ℝ) : EReal))
    (fun k => p.valAt n k.val (64 * (h / 4) + d)) q

/-- The reference's way. -/
def refHead (n : ℕ) (q : Fin 128) (h d : ℕ) : EReal :=
  refAttend (fun k => p.dot n q.val h k.val * ((1 / 8 : ℝ) : EReal)) (n = 0) (p.sk h) (fun k => p.valAt n k.val (64 * (h / 4) + d)) q

def oKer (s e : ℕ) : EReal := p.kerHead (s / 128) ⟨s % 128, Nat.mod_lt _ (by norm_num)⟩ (e / 64) (e % 64)

def oRef (s e : ℕ) : EReal := p.refHead (s / 128) ⟨s % 128, Nat.mod_lt _ (by norm_num)⟩ (e / 64) (e % 64)

/-- The output projection of an attention output. -/
def outProj (o : ℕ → ℕ → EReal) (s i : ℕ) : EReal := ∑ e : Fin 1024, o s e.val * p.wo e.val i + p.bo i

/-- The layer's result: the input plus the scaled projection. -/
def res (o : ℕ → ℕ → EReal) (s i : ℕ) : EReal := p.x s i + norm (p.outProj o s) p.gp i

/-- What must be finite for the two forms to agree: the gain, the query and key columns of the projection, the sinks,
    the rotary tables. -/
structure Finite : Prop where
  g : ∀ e, e < 1024 → ∃ r : ℝ, p.g e = r
  w : ∀ e i, e < 1024 → i < 1280 → ∃ r : ℝ, p.w e i = r
  b : ∀ i, i < 1280 → ∃ r : ℝ, p.b i = r
  sk : ∀ h, h < 16 → ∃ r : ℝ, p.sk h = r
  c : ∀ s d, s < 4096 → d < 32 → ∃ r : ℝ, p.c s d = r
  s : ∀ s d, s < 4096 → d < 32 → ∃ r : ℝ, p.s s d = r

end Par

/-! ## The two forms agree -/

theorem sum_real {ι : Type*} [Fintype ι] (f : ι → EReal) (hf : ∀ i, ∃ r : ℝ, f i = r) : ∃ r : ℝ, ∑ i, f i = r := by
  choose r hr using hf
  exact ⟨∑ i, r i, by rw [coe_sum]; simp only [hr]⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem sub_real {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

/-- The mean's divisor is 1024. -/
theorem ofBits_1024 : Ideal.ofBits .f32 1149239296#32 = ((1024 : ℝ) : EReal) := by
  simp [Ideal.ofBits, Ideal.ieee]
  rw [← EReal.coe_mul]
  norm_num

/-- Epsilon is a positive real. -/
theorem ofBits_eps : ∃ r : ℝ, 0 < r ∧ Ideal.ofBits .f32 897988541#32 = (r : EReal) := by
  refine ⟨_, ?_, by simp [Ideal.ofBits, Ideal.ieee]; norm_num; rfl⟩
  norm_num

theorem sq_nonneg' (x : EReal) : 0 ≤ x * x := by
  induction x using EReal.rec with
  | bot => simp
  | top => simp
  | coe x => rw [← EReal.coe_mul]; exact_mod_cast mul_self_nonneg x

/-- A scaled row is finite wherever the gain is, whatever the row: where an entry is infinite the factor is zero. -/
theorem norm_real (u g : ℕ → EReal) (e : ℕ) (he : e < 1024) (hg : ∃ r : ℝ, g e = r) : ∃ r : ℝ, norm u g e = r := by
  obtain ⟨ε, hε, hεb⟩ := ofBits_eps
  unfold norm
  refine mul_real ?_ hg
  rw [ofBits_1024, hεb]
  by_cases hfin : ∀ i : Fin 1024, ∃ r : ℝ, u i.val = r
  · choose r hr using hfin
    have hs : ∑ i : Fin 1024, u i.val * u i.val = ((∑ i, r i * r i : ℝ) : EReal) := by
      rw [coe_sum]
      simp only [hr, EReal.coe_mul]
    have hnn : 0 ≤ ∑ i, r i * r i := Finset.sum_nonneg fun i _ => mul_self_nonneg _
    rw [hs, div_real _ _ (by norm_num), ← EReal.coe_mul, ← EReal.coe_add]
    refine mul_real ⟨_, hr ⟨e, he⟩⟩ ?_
    have hpos : 0 < (∑ i, r i * r i) * (1024 : ℝ)⁻¹ + ε := by positivity
    rw [Ideal.rsqrt_coe, if_neg hpos.not_gt, if_neg hpos.ne']
    exact ⟨_, rfl⟩
  · have hs : ∑ i : Fin 1024, u i.val * u i.val = ⊤ := by
      push Not at hfin
      obtain ⟨i, hi⟩ := hfin
      have h1 : u i.val * u i.val = ⊤ := by
        generalize u i.val = y at hi
        induction y using EReal.rec with
        | bot => rfl
        | top => rfl
        | coe y => exact absurd rfl (hi y)
      exact top_unique (h1 ▸ Finset.single_le_sum (f := fun i : Fin 1024 => u i.val * u i.val) (fun i _ => sq_nonneg' _) (Finset.mem_univ i))
    rw [hs, div_top _ (by norm_num), EReal.top_add_coe, Ideal.rsqrt_top, mul_zero]
    exact ⟨0, rfl⟩

namespace Par

variable {p : Par} (hp : p.Finite)

include hp

theorem qkv_real (s i : ℕ) (hi : i < 1280) : ∃ r : ℝ, p.qkv s i = r :=
  add_real (sum_real _ fun e => mul_real (norm_real _ _ _ e.isLt (hp.g _ e.isLt)) (hp.w _ _ e.isLt hi)) (hp.b _ hi)

theorem rot_real (s i : ℕ) (hs : s < 4096) (hi : i < 1280) : ∃ r : ℝ, p.rot s i = r := by
  unfold rot rotCol
  have hq := fun i h => qkv_real hp s i h
  split_ifs with h
  · exact sub_real (mul_real (hq _ hi) (hp.c _ _ hs h)) (mul_real (hq _ (by omega)) (hp.s _ _ hs h))
  · exact add_real (mul_real (hq _ hi) (hp.c _ _ hs (by omega))) (mul_real (hq _ (by omega)) (hp.s _ _ hs (by omega)))

theorem keyAt_real (n k i : ℕ) (hn : n < 32) (hk : k < 256) (hi : i < 256) : ∃ r : ℝ, p.keyAt n k i = r := by
  unfold keyAt
  split_ifs
  · exact ⟨0, rfl⟩
  · exact rot_real hp _ _ (by omega) (by omega)
  · exact rot_real hp _ _ (by omega) (by omega)

/-- One head agrees. -/
theorem kerHead_eq (n : ℕ) (q : Fin 128) (h d : ℕ) (hn : n < 32) (hh : h < 16) : p.kerHead n q h d = p.refHead n q h d := by
  obtain ⟨σ, hσ⟩ := hp.sk h hh
  have hK : ∀ (k : Fin 256) (d : Fin 64), ∃ r : ℝ, p.keyAt n k.val (64 * (h / 4) + d.val) = r := fun k d =>
    keyAt_real hp _ _ _ hn k.isLt (by omega)
  have hQ : ∀ d : Fin 64, ∃ r : ℝ, p.rot (128 * n + q.val) (64 * h + d.val) = r := fun d => rot_real hp _ _ (by omega) (by omega)
  choose K hK using hK
  choose Q hQ using hQ
  have hs : ∀ k : Fin 256, p.dot n q.val h k.val * ((1 / 8 : ℝ) : EReal) = (((∑ d, K k d * Q d) * (1 / 8) : ℝ) : EReal) := fun k => by
    unfold dot
    rw [EReal.coe_mul, coe_sum]
    simp only [hK, hQ, EReal.coe_mul]
  have ha : ∀ k : Fin 256, p.kerDot n q.val h k.val = (((∑ d, K k d * Q d) * (1 / 8) : ℝ) : EReal) * ((Real.log 2)⁻¹ : ℝ) := fun k => by
    unfold kerDot
    rw [← EReal.coe_mul]
    simp only [hK, hQ, ← EReal.coe_mul, ← coe_sum]
    congr 1
    rw [mul_assoc, Finset.sum_mul]
    refine Finset.sum_congr rfl fun d _ => ?_
    rw [mul_inv]
    ring
  unfold kerHead refHead
  rw [hσ, kerAttend_eq (fun k => (∑ d, K k d * Q d) * (1 / 8)) (n = 0) σ q _ _ ha rfl]
  simp only [hs]

/-- The two attention outputs give the same result. -/
theorem res_eq (s i : ℕ) (hs : s < 4096) : p.res p.oKer s i = p.res p.oRef s i := by
  have ho : ∀ i, p.outProj p.oKer s i = p.outProj p.oRef s i := fun i => by
    unfold outProj
    congr 1
    refine Finset.sum_congr rfl fun e _ => ?_
    congr 1
    exact kerHead_eq hp _ _ _ _ (by omega) (by omega)
  unfold res
  rw [show p.outProj p.oKer s = p.outProj p.oRef s from funext ho]

end Par

end Cert.Attn

end
-- ==== Proof.Stage.lean ====
module

public import proofs.«01_k».proof.Proof.Tile
public import proofs.«01_k».proof.Proof.Spec
public import Idealize.ShloMosaic.Lib.Pointwise

/-! Every stage of the attention kernel at an index, over extended reals, in the terms of `Spec`. -/

@[expose] public section

set_option maxRecDepth 16384

noncomputable section

namespace Cert.KernelIdeal.Attn

open Idealize.ShloMosaic Idealize.SL.Sem Cert.KernelIdeal.Gen Cert.Attn

/-! ## Constants -/

theorem qScale_eq : (Named.named κ "q_scale" 1043900987#32 : Ideal .f32) = (((8 * Real.log 2)⁻¹ : ℝ) : EReal) := by
  simp [Named.named, κ]

theorem log2e_eq : (Named.named κ "log2e" 1069066811#32 : Ideal .f32) = (((Real.log 2)⁻¹ : ℝ) : EReal) := by
  simp [Named.named, κ]

theorem ofBits_negInf : Ideal.ofBits .f32 4286578688#32 = ⊥ := by
  simp [Ideal.ofBits, Ideal.ieee]

/-! ## Word comparisons of the masks -/

/-- A column's query offset, as the kernel computes it: a remainder corrected for the sign. -/
theorem offset_word : ∀ l : Fin 512,
    Scalar.select
        (IntOp.andi
          (IntOp.xori
            (IntOp.cmpi CmpIPredicate.slt (IntOp.remsi ArithUnit.vector (BitVec.ofNat 32 l.val) (Scalar.select (Scalar.cmpi CmpIPredicate.eq 128#32 0#32) 1#32 128#32)) 0#32)
            (Scalar.cmpi CmpIPredicate.slt (Scalar.select (Scalar.cmpi CmpIPredicate.eq 128#32 0#32) 1#32 128#32) 0#32))
          (IntOp.cmpi CmpIPredicate.ne (IntOp.remsi ArithUnit.vector (BitVec.ofNat 32 l.val) (Scalar.select (Scalar.cmpi CmpIPredicate.eq 128#32 0#32) 1#32 128#32)) 0#32))
        (IntOp.addi (IntOp.remsi ArithUnit.vector (BitVec.ofNat 32 l.val) (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 l.val) (Scalar.select (Scalar.cmpi CmpIPredicate.eq 128#32 0#32) 1#32 128#32))
      = BitVec.ofNat 32 (l.val % 128) := by decide +kernel

theorem le_word : ∀ k r : Fin 128, IntOp.cmpi CmpIPredicate.sle (BitVec.ofNat 32 k.val) (BitVec.ofNat 32 r.val) = if k.val ≤ r.val then 1#1 else 0#1 := by
  decide +kernel

theorem causal_apply (k : Fin 128) (l : Fin 512) : causal (ix2 k l) = if k.val ≤ l.val % 128 then 1#1 else 0#1 := by
  pointwise [causal]
  rw [offset_word]
  exact le_word k ⟨l.val % 128, Nat.mod_lt _ (by norm_num)⟩

theorem headOf_apply (l : Fin 512) : headOf (ix2 0 l) = BitVec.ofNat 32 (l.val / 128) := by
  pointwise [headOf]
  revert l
  decide +kernel

/-! ## The rotary embedding -/

theorem rope_apply (c s : FVec Ideal S32x256 .f32) (t : FVec Ideal S256x256 .f32) (f C S : ℕ → EReal) (c0 : ℕ) (hc0 : c0 % 64 = 0) (r : Fin 256)
    (ht : ∀ e : Fin 256, t (ix2 e r) = f (c0 + e.val)) (hc : ∀ d : Fin 32, c (ix2 d r) = C d.val) (hs : ∀ d : Fin 32, s (ix2 d r) = S d.val)
    (e : Fin 256) : rope c s t (ix2 e r) = rotCol f C S (c0 + e.val) := by
  have he := e.isLt
  pointwise [rope, rotLo, rotHi]
  simp only [ht, hc, hs, rotCol]
  split_ifs <;> first | omega | (congr 3 <;> omega)

/-! ## Scores, weights, sums -/

theorem sinkRow_apply (s0 s1 s2 s3 : Ideal .f32) (s : Fin 4 → EReal) (h0 : s0 = s 0) (h1 : s1 = s 1) (h2 : s2 = s 2) (h3 : s3 = s 3) (h : Fin 4)
    (l : Fin 512) (hl : l.val / 128 = h.val) : sinkRow s0 s1 s2 s3 (ix2 0 l) = s h * (((Real.log 2)⁻¹ : ℝ) : EReal) := by
  pointwise [sinkRow]
  rw [log2e_eq, headOf_apply, hl]
  congr 1
  subst h0 h1 h2 h3
  fin_cases h <;> rfl

theorem kept_apply (sp : FVec Ideal S128x512 .f32) (s : FVec Ideal S256x512 .f32) (a : Fin 256 → EReal) (neg : EReal) (q : Fin 128) (l : Fin 512)
    (hl : l.val % 128 = q.val) (hs : ∀ k : Fin 256, s (ix2 k l) = a k) (hp : ∀ k : Fin 128, sp (ix2 k l) = a ⟨k.val, by omega⟩ + neg) (k : Fin 128) :
    kept sp s (ix2 k l) = keptScore a neg q k := by
  pointwise [kept]
  rw [causal_apply, hl, hs, hp]
  unfold keptScore
  split_ifs <;> rfl

section

variable (kp : FVec Ideal S128x512 .f32) (sink : FVec Ideal S1x512 .f32) (a : Fin 256 → EReal) (neg σ : EReal) (q : Fin 128) (l : Fin 512)
  (hl : l.val % 128 = q.val) (hk : ∀ k : Fin 128, kp (ix2 k l) = keptScore a neg q k) (hσ : sink (ix2 0 l) = σ)

include hk hσ

theorem peak_apply : peak kp sink (ix2 0 l) = kerPeak a neg σ q := by
  pointwise [peak]
  rw [ofBits_negInf, hσ]
  unfold kerPeak
  simp only [hk]

theorem expo_apply (k : Fin 128) : expo kp sink (ix2 k l) = kerExp a neg σ q k := by
  pointwise [expo]
  rw [peak_apply kp sink a neg σ q l hk hσ, hk]
  rfl

theorem denom_apply : denom kp sink (ix2 0 l) = kerDen a neg σ q := by
  pointwise [denom]
  rw [peak_apply kp sink a neg σ q l hk hσ, hσ]
  simp only [expo_apply kp sink a neg σ q l hk hσ]
  rfl

include hl

theorem weights_apply (k : Fin 256) : weights kp sink (ix2 k l) = kerWeight a neg σ q k := by
  pointwise [weights]
  simp only [causal_apply, expo_apply kp sink a neg σ q l hk hσ, hl]
  unfold kerWeight
  split_ifs <;> rfl

end

theorem attend_apply (sp : FVec Ideal S128x512 .f32) (s : FVec Ideal S256x512 .f32) (sink : FVec Ideal S1x512 .f32) (v : FVec Ideal S64x256 .bf16)
    (a : Fin 256 → EReal) (neg σ : EReal) (V : Fin 256 → EReal) (q : Fin 128) (d : Fin 64) (l : Fin 512)
    (hl : l.val % 128 = q.val) (hs : ∀ k : Fin 256, s (ix2 k l) = a k) (hp : ∀ k : Fin 128, sp (ix2 k l) = a ⟨k.val, by omega⟩ + neg)
    (hσ : sink (ix2 0 l) = σ) (hv : ∀ k : Fin 256, v (ix2 d k) = V k) : attend sp s sink v (ix2 d l) = kerAttend a neg σ V q := by
  have hk := kept_apply sp s a neg q l hl hs hp
  pointwise [attend]
  simp only [weights_apply _ sink a neg σ q l hl hk hσ, denom_apply _ sink a neg σ q l hk hσ, hv]
  rfl

end Cert.KernelIdeal.Attn

end
-- ==== Proof.TileValue.lean ====
module

public import proofs.«01_k».proof.Proof.Stage

/-! One grid point of the attention kernel over extended reals: the four sub-tiles of its 1024 positions in the terms of
`Spec`, given what its loads hold. -/

@[expose] public section

set_option maxRecDepth 16384

noncomputable section

namespace Cert.KernelIdeal.Attn

open Idealize.ShloMosaic Idealize.SL.Sem Cert.KernelIdeal.Gen Cert.Attn

/-! ## Joining and projecting -/

theorem rms_apply (g : FVec Ideal S1x1024 .f32) (x : FVec Ideal S256x1024 .f32) (u G : ℕ → EReal) (r : Fin 256)
    (hx : ∀ e : Fin 1024, x (ix2 r e) = u e.val) (hg : ∀ e : Fin 1024, g (ix2 0 e) = G e.val) (e : Fin 1024) :
    rms g x (ix2 r e) = norm u G e.val := by
  pointwise [rms]
  simp only [hx, hg]
  rfl

theorem proj_apply (h : FVec Ideal S1024x256 .bf16) (w : FVec Ideal S256x1024 .bf16) (b : FVec Ideal S256x1 .f32) (e r : Fin 256) :
    proj h w b (ix2 e r) = ∑ k : Fin 1024, h (ix2 k r) * w (ix2 e k) + b (ix2 e 0) := by
  pointwise [proj]
  simp only [mul_comm]

theorem qRow_apply (q : FVec Ideal S1024x256 .bf16) (f : ℕ → EReal) (c l : ℕ) (h0 : S1024x256.Slices ![c + 64 * (0 : Fin 4).val, l] S64x128)
    (h1 : S1024x256.Slices ![c + 64 * (1 : Fin 4).val, l] S64x128) (h2 : S1024x256.Slices ![c + 64 * (2 : Fin 4).val, l] S64x128)
    (h3 : S1024x256.Slices ![c + 64 * (3 : Fin 4).val, l] S64x128) (r : Fin 512) (hl : l + r.val % 128 < 256)
    (hq : ∀ e : Fin 1024, q (ix2 e ⟨l + r.val % 128, hl⟩) = f e.val) (d : Fin 64) :
    qRow q (c + 64 * (0 : Fin 4).val) (c + 64 * (1 : Fin 4).val) (c + 64 * (2 : Fin 4).val) (c + 64 * (3 : Fin 4).val) l h0 h1 h2 h3 (ix2 d r)
      = f (c + 64 * (r.val / 128) + d.val) := by
  have hr := r.isLt
  have key : ∀ (e : ℕ) (he : e < 1024) (j : ℕ) (hj : j < 256), j = l + r.val % 128 → q (ix2 ⟨e, he⟩ ⟨j, hj⟩) = f e := fun e he j hj h => by
    subst h
    exact hq ⟨e, he⟩
  pointwise [qRow]
  split_ifs <;> (rw [key _ _ _ _ (by omega)]; congr 1; simp; omega)

theorem heads_apply (u : Fin 4 → FVec Ideal S64x512 .f32) (f : ℕ → EReal) (r : Fin 128)
    (h : ∀ (g : Fin 4) (d : Fin 64) (l : Fin 512), l.val % 128 = r.val → u g (ix2 d l) = f (256 * g.val + 64 * (l.val / 128) + d.val))
    (e : Fin 1024) : heads u (ix2 e r) = f e.val := by
  have he := e.isLt
  have hr := r.isLt
  refine (concatenate_ofFn_apply (0 : Fin S1024x128.rank) (headAt u) (headsFit u) rfl 64 rfl (ix2 e r) ⟨e.val / 64, by omega⟩ rfl
    (ix2 ⟨e.val % 64, by omega⟩ r) rfl (fun b hb => by
      match b with
      | 0 => exact absurd rfl hb
      | 1 => rfl)).trans ?_
  pointwise [headAt]
  rw [h _ _ _ (by simp only; omega)]
  congr 1
  simp only
  omega

/-! ## What the loads hold -/

/-- The loads `L` of a grid point hold the arrays `p` of its sequence, at the 1024 positions of tile `j`; the carried keys
    and values are those of the block before the tile. -/
structure Rep (p : Par) (L : Loads Ideal) (j : ℕ) : Prop where
  g : ∀ e : Fin 1024, L.g (ix2 0 e) = p.g e.val
  gp : ∀ e : Fin 1024, L.gp (ix2 0 e) = p.gp e.val
  x : ∀ (t : Fin 4) (r : Fin 256) (e : Fin 1024), L.x t (ix3 0 r e) = p.x (1024 * j + 256 * t.val + r.val) e.val
  w : ∀ (k : Fin 6) (r : Fin 256) (e : Fin 1024), L.w k (ix2 r e) = p.w e.val (256 * k.val + r.val)
  b : ∀ (k : Fin 6) (r : Fin 256), L.b k (ix2 r 0) = p.b (256 * k.val + r.val)
  c : ∀ (t : Fin 4) (d : Fin 32) (r : Fin 256), L.c t (ix2 d r) = p.c (1024 * j + 256 * t.val + r.val) d.val
  s : ∀ (t : Fin 4) (d : Fin 32) (r : Fin 256), L.s t (ix2 d r) = p.s (1024 * j + 256 * t.val + r.val) d.val
  sk : ∀ h : Fin 16, L.sk h = p.sk h.val
  wo : ∀ (n : Fin 4) (e : Fin 1024) (i : Fin 256), L.wo n (ix2 e i) = p.wo e.val (256 * n.val + i.val)
  bo : ∀ (n : Fin 4) (i : Fin 256), L.bo n (ix2 0 i) = p.bo (256 * n.val + i.val)
  kp : ∀ (k : Fin 128) (i : Fin 256), L.kp (ix2 k i) = p.keyAt (8 * j) k.val i.val
  vp : ∀ (i : Fin 256) (k : Fin 128), L.vp (ix2 i k) = p.valAt (8 * j) k.val i.val
  neg : L.neg = if j = 0 then ⊥ else 0

section

variable {p : Par} {L : Loads Ideal} {j : ℕ} (R : Rep p L j)

include R

theorem pj_apply (t : Fin 4) (k : Fin 6) (e r : Fin 256) : L.pj t k (ix2 e r) = p.qkv (1024 * j + 256 * t.val + r.val) (256 * k.val + e.val) := by
  unfold Loads.pj
  rw [proj_apply, R.b]
  unfold Par.qkv
  congr 1
  refine Finset.sum_congr rfl fun i _ => ?_
  rw [R.w]
  congr 1
  pointwise [normT]
  exact rms_apply _ _ (p.x (1024 * j + 256 * t.val + r.val)) p.g r (fun e => by pointwise; exact R.x t r e) (fun e => by pointwise; exact R.g e) i

theorem cos_apply (t : Fin 4) (d : Fin 32) (r : Fin 256) : L.cos t (ix2 d r) = p.c (1024 * j + 256 * t.val + r.val) d.val := by
  pointwise [Loads.cos]
  exact R.c t d r

theorem sin_apply (t : Fin 4) (d : Fin 32) (r : Fin 256) : L.sin t (ix2 d r) = p.s (1024 * j + 256 * t.val + r.val) d.val := by
  pointwise [Loads.sin]
  exact R.s t d r

theorem qChunk_apply (t : Fin 4) (k : Fin 6) (e r : Fin 256) : qChunk (L.cos t) (L.sin t) (L.pj t k) (ix2 e r)
    = p.rot (1024 * j + 256 * t.val + r.val) (256 * k.val + e.val) * (((8 * Real.log 2)⁻¹ : ℝ) : EReal) := by
  pointwise [qChunk]
  rw [qScale_eq, rope_apply _ _ _ (p.qkv (1024 * j + 256 * t.val + r.val)) (p.c (1024 * j + 256 * t.val + r.val)) (p.s (1024 * j + 256 * t.val + r.val))
    (256 * k.val) (by omega) r (fun e => pj_apply R t k e r) (fun d => cos_apply R t d r) (fun d => sin_apply R t d r)]
  rfl

theorem q_apply (t : Fin 4) (e : Fin 1024) (r : Fin 256) : L.q t (ix2 e r)
    = p.rot (1024 * j + 256 * t.val + r.val) e.val * (((8 * Real.log 2)⁻¹ : ℝ) : EReal) := by
  have he := e.isLt
  pointwise [Loads.q, queries]
  simp only [qChunk_apply R]
  split_ifs <;> (congr 2; simp; try omega)

theorem kBlk_apply (t : Fin 4) (i : Fin 2) (k : Fin 128) (e : Fin 256) : L.kBlk t i (ix2 k e)
    = p.rot (128 * (8 * j + 2 * t.val + i.val) + k.val) (1024 + e.val) := by
  have hs : 1024 * j + 256 * t.val + (128 * i.val + k.val) = 128 * (8 * j + 2 * t.val + i.val) + k.val := by omega
  pointwise [Loads.kBlk, keys]
  rw [rope_apply _ _ _ (p.qkv (128 * (8 * j + 2 * t.val + i.val) + k.val)) (p.c (128 * (8 * j + 2 * t.val + i.val) + k.val))
    (p.s (128 * (8 * j + 2 * t.val + i.val) + k.val)) 1024 (by omega) ⟨128 * i.val + k.val, by omega⟩
    (fun e => by
      have he := e.isLt
      pointwise [Loads.kv, keyVal]
      rw [pj_apply R]
      simp only [hs]
      congr 1) (fun d => by rw [cos_apply R, hs]) (fun d => by rw [sin_apply R, hs])]
  rfl

theorem vBlk_apply (t : Fin 4) (i : Fin 2) (e : Fin 256) (k : Fin 128) : L.vBlk t i (ix2 e k)
    = p.qkv (128 * (8 * j + 2 * t.val + i.val) + k.val) (1280 + e.val) := by
  have hs : 1024 * j + 256 * t.val + (128 * i.val + k.val) = 128 * (8 * j + 2 * t.val + i.val) + k.val := by omega
  pointwise [Loads.vBlk, values, Loads.kv, keyVal]
  rw [pj_apply R]
  simp only [hs]
  congr 1

theorem kBefore_apply (t : Fin 4) (i : Fin 2) (k : Fin 128) (e : Fin 256) : L.kBefore t i (ix2 k e)
    = p.keyAt (8 * j + 2 * t.val + i.val) k.val e.val := by
  unfold Loads.kBefore
  split_ifs with h1 h2
  · subst h1
    rw [kBlk_apply R]
    unfold Par.keyAt
    rw [if_pos k.isLt, if_neg (by simp)]
    congr 1
  · obtain rfl : i = 0 := by omega
    subst h2
    rw [R.kp]
    rfl
  · obtain rfl : i = 0 := by omega
    rw [kBlk_apply R]
    have ht : (t - 1).val = t.val - 1 := by revert t; decide
    have ht' : t.val ≠ 0 := fun h => h2 (Fin.ext h)
    unfold Par.keyAt
    rw [if_pos k.isLt, if_neg (by omega), ht]
    congr 1
    simp
    omega

theorem vBefore_apply (t : Fin 4) (i : Fin 2) (e : Fin 256) (k : Fin 128) : L.vBefore t i (ix2 e k)
    = p.valAt (8 * j + 2 * t.val + i.val) k.val e.val := by
  unfold Loads.vBefore
  split_ifs with h1 h2
  · subst h1
    rw [vBlk_apply R]
    unfold Par.valAt
    rw [if_pos k.isLt, if_neg (by simp)]
    congr 1
  · obtain rfl : i = 0 := by omega
    subst h2
    rw [R.vp]
    rfl
  · obtain rfl : i = 0 := by omega
    rw [vBlk_apply R]
    have ht : (t - 1).val = t.val - 1 := by revert t; decide
    have ht' : t.val ≠ 0 := fun h => h2 (Fin.ext h)
    unfold Par.valAt
    rw [if_pos k.isLt, if_neg (by omega), ht]
    congr 1
    simp
    omega

/-- The band's keys, two heads of them. -/
theorem band_apply (t : Fin 4) (i : Fin 2) (g : Fin 4) (k : Fin 256) (e : Fin 128) :
    band (L.kBefore t i) (L.kBlk t i) (128 * (g.val / 2)) (Loads.kSlice g) (ix2 k e)
      = p.keyAt (8 * j + 2 * t.val + i.val) k.val (128 * (g.val / 2) + e.val) := by
  pointwise [band]
  simp only [kBefore_apply R, kBlk_apply R]
  split_ifs with h
  · rfl
  · unfold Par.keyAt
    rw [if_neg h]

theorem bandV_apply (t : Fin 4) (i : Fin 2) (g : Fin 4) (d : Fin 64) (k : Fin 256) :
    bandV (L.vBefore t i) (L.vBlk t i) (64 * g.val) (Loads.vSlice g) (ix2 d k)
      = p.valAt (8 * j + 2 * t.val + i.val) k.val (64 * g.val + d.val) := by
  pointwise [bandV]
  simp only [vBefore_apply R, vBlk_apply R]
  split_ifs with h
  · rfl
  · unfold Par.valAt
    rw [if_neg h]

/-- The queries of one key/value head, at column `l`: head `l / 128` of its four, offset `l % 128`. -/
theorem qUnit_apply (t : Fin 4) (i : Fin 2) (g : Fin 4) (d : Fin 64) (l : Fin 512) :
    qRow (L.q t) (256 * g.val + 64 * (0 : Fin 4).val) (256 * g.val + 64 * (1 : Fin 4).val) (256 * g.val + 64 * (2 : Fin 4).val)
        (256 * g.val + 64 * (3 : Fin 4).val) (128 * i.val) (Loads.qSlice g 0 i) (Loads.qSlice g 1 i) (Loads.qSlice g 2 i) (Loads.qSlice g 3 i) (ix2 d l)
      = p.rot (128 * (8 * j + 2 * t.val + i.val) + l.val % 128) (64 * (4 * g.val + l.val / 128) + d.val) * (((8 * Real.log 2)⁻¹ : ℝ) : EReal) := by
  have hs : 1024 * j + 256 * t.val + (128 * i.val + l.val % 128) = 128 * (8 * j + 2 * t.val + i.val) + l.val % 128 := by omega
  rw [qRow_apply (L.q t) (fun e => p.rot (128 * (8 * j + 2 * t.val + i.val) + l.val % 128) e * (((8 * Real.log 2)⁻¹ : ℝ) : EReal)) _ _ _ _ _ _ l
    (by omega) (fun e => by rw [q_apply R]; simp only [hs])]
  congr 2
  omega

theorem score_apply (t : Fin 4) (i : Fin 2) (g : Fin 4) (k : Fin 256) (l : Fin 512) : L.score t i g (ix2 k l)
    = p.kerDot (8 * j + 2 * t.val + i.val) (l.val % 128) (4 * g.val + l.val / 128) k.val := by
  have hg : (4 * g.val + l.val / 128) / 4 = g.val := by omega
  unfold Loads.score Par.kerDot
  rw [hg]
  split_ifs with h
  · pointwise [scoresEven]
    simp only [mul_zero, Finset.sum_const_zero, add_zero, band_apply R, qUnit_apply R]
    refine Finset.sum_congr rfl fun d _ => ?_
    congr 1
    · congr 1
      omega
    · exact qUnit_apply R t i g d l
  · pointwise [scoresOdd]
    simp only [mul_zero, Finset.sum_const_zero, zero_add, band_apply R, qUnit_apply R]
    refine Finset.sum_congr rfl fun d _ => ?_
    congr 1
    · congr 1
      omega
    · exact qUnit_apply R t i g d l

theorem prev_apply (t : Fin 4) (i : Fin 2) (g : Fin 4) (k : Fin 128) (l : Fin 512) : L.prev t i g (ix2 k l)
    = p.kerDot (8 * j + 2 * t.val + i.val) (l.val % 128) (4 * g.val + l.val / 128) k.val + if 8 * j + 2 * t.val + i.val = 0 then ⊥ else 0 := by
  have hs : ∀ x : FVec Ideal S256x512 .f32, scorePrev x (ix2 k l) = x (ix2 ⟨k.val, by omega⟩ l) := fun x => by
    pointwise [scorePrev]
  unfold Loads.prev
  split_ifs with h1 h2 h3 h3 h3
  · pointwise
    rw [hs, score_apply R, R.neg, if_pos (by omega)]
  · pointwise
    subst h1 h2
    rw [hs, score_apply R, R.neg, if_neg (by simpa using h3), add_zero]
  · exact absurd (Fin.ext (by simp; omega)) h2
  · rw [hs, score_apply R, add_zero]
  · exact absurd (Fin.ext (by simp; omega)) h1
  · rw [hs, score_apply R, add_zero]

theorem unit_apply (t : Fin 4) (i : Fin 2) (g : Fin 4) (d : Fin 64) (l : Fin 512) : L.unit t i g (ix2 d l)
    = p.kerHead (8 * j + 2 * t.val + i.val) ⟨l.val % 128, Nat.mod_lt _ (by norm_num)⟩ (4 * g.val + l.val / 128) d.val := by
  have hg : (4 * g.val + l.val / 128) / 4 = g.val := by omega
  unfold Loads.unit Par.kerHead
  rw [hg]
  refine attend_apply _ _ _ _ _ _ _ _ _ d l rfl (fun k => score_apply R t i g k l) (fun k => prev_apply R t i g k l) ?_ (fun k => bandV_apply R t i g d k)
  exact sinkRow_apply _ _ _ _ (fun h => p.sk (4 * g.val + h.val)) (R.sk _) (R.sk _) (R.sk _) (R.sk _) ⟨l.val / 128, by omega⟩ l rfl

theorem o_apply (t : Fin 4) (r : Fin 256) (e : Fin 1024) : L.o t (ix2 r e) = p.oKer (1024 * j + 256 * t.val + r.val) e.val := by
  have hr := r.isLt
  have key : ∀ (i : Fin 2) (q : Fin 128), heads (L.unit t i) (ix2 e q) = p.oKer (128 * (8 * j + 2 * t.val + i.val) + q.val) e.val := fun i q =>
    heads_apply _ (fun e => p.oKer (128 * (8 * j + 2 * t.val + i.val) + q.val) e) q (fun g d l hl => by
      rw [unit_apply R]
      unfold Par.oKer
      congr 1 <;> first | omega | (apply Fin.ext; simp only; omega)) e
  pointwise [Loads.o, rowsOf]
  simp only [key]
  split_ifs <;> (congr 1; simp; omega)

/-- The result rows of sub-tile `t`. -/
theorem out_apply (t : Fin 4) (r : Fin 256) (e : Fin 1024) : L.out t (ix3 0 r e) = p.res p.oKer (1024 * j + 256 * t.val + r.val) e.val := by
  have key : ∀ (n : Fin 4) (i : Fin 256), outChunk (L.o t) (L.wo n) (L.bo n) (ix2 r i) = p.outProj p.oKer (1024 * j + 256 * t.val + r.val) (256 * n.val + i.val) := fun n i => by
    pointwise [outChunk]
    simp only [o_apply R, R.wo, R.bo]
    rfl
  pointwise [Loads.out, finish]
  rw [R.x]
  unfold Par.res
  congr 1
  refine rms_apply _ _ (p.outProj p.oKer (1024 * j + 256 * t.val + r.val)) p.gp r (fun e => ?_) (fun e => by pointwise; exact R.gp e) e
  have he := e.isLt
  pointwise
  simp only [key]
  split_ifs <;> (congr 1; simp; try omega)

end

end Cert.KernelIdeal.Attn

end
-- ==== Proof.Arrays.lean ====
module

public import proofs.«01_k».proof.Proof.Spec

/-! The attention layer's arrays, from arrays of fixed size: outside its size an array is zero. -/

@[expose] public section

set_option maxRecDepth 16384

noncomputable section

namespace Cert.Attn

open Idealize.ShloMosaic

/-- An array of one axis, zero past its end. -/
def ext1 {n : ℕ} (f : Fin n → EReal) (i : ℕ) : EReal := if h : i < n then f ⟨i, h⟩ else 0

/-- An array of two axes, zero past its ends. -/
def ext2 {n k : ℕ} (f : Fin n → Fin k → EReal) (i j : ℕ) : EReal := if h : i < n ∧ j < k then f ⟨i, h.1⟩ ⟨j, h.2⟩ else 0

theorem ext1_lt {n : ℕ} (f : Fin n → EReal) {i : ℕ} (h : i < n) : ext1 f i = f ⟨i, h⟩ := dif_pos h

theorem ext1_val {n : ℕ} (f : Fin n → EReal) (i : Fin n) : ext1 f i.val = f i := dif_pos i.isLt

theorem ext2_lt {n k : ℕ} (f : Fin n → Fin k → EReal) {i j : ℕ} (h : i < n) (h' : j < k) : ext2 f i j = f ⟨i, h⟩ ⟨j, h'⟩ :=
  dif_pos ⟨h, h'⟩

theorem ext2_val {n k : ℕ} (f : Fin n → Fin k → EReal) (i : Fin n) (j : Fin k) : ext2 f i.val j.val = f i j :=
  dif_pos ⟨i.isLt, j.isLt⟩

/-- The rotary angle of coordinate `d` at position `s`. -/
def angle (s d : ℕ) : EReal :=
  FloatOps.sitofp (F := Ideal) FTy.f32 (BitVec.ofNat 32 s)
    * Ideal.pow (Ideal.ofBits FTy.f32 1176256512#32) (Ideal.div (-(FloatOps.sitofp (F := Ideal) FTy.f32 (BitVec.ofNat 32 d) * Ideal.ofBits FTy.f32 1073741824#32)) (Ideal.ofBits FTy.f32 1115684864#32))

/-- The layer's arrays for one sequence, from its sized arrays. -/
def Par.of (x : Fin 4096 → Fin 1024 → EReal) (g gp : Fin 1024 → EReal) (w : Fin 1024 → Fin 1536 → EReal) (b : Fin 1536 → EReal)
    (sk : Fin 16 → EReal) (wo : Fin 1024 → Fin 1024 → EReal) (bo : Fin 1024 → EReal) : Par where
  x := ext2 x
  g := ext1 g
  gp := ext1 gp
  w := ext2 w
  b := ext1 b
  sk := ext1 sk
  wo := ext2 wo
  bo := ext1 bo
  c s d := Ideal.cos (angle s d)
  s s d := Ideal.sin (angle s d)

theorem ofBits_10000 : Ideal.ofBits .f32 1176256512#32 = ((10000 : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem ofBits_64 : Ideal.ofBits .f32 1115684864#32 = ((64 : ℝ) : EReal) := by
  simp [Ideal.ofBits, Ideal.ieee]
  rw [← EReal.coe_mul]
  norm_num

/-- Every angle is real. -/
theorem angle_real (s d : ℕ) : ∃ r : ℝ, angle s d = r := by
  refine ⟨((BitVec.ofNat 32 s).toInt : ℝ) * Real.rpow 10000 (-(((BitVec.ofNat 32 d).toInt : ℝ) * 2) / 64), ?_⟩
  have e : Ideal.div (-(FloatOps.sitofp (F := Ideal) FTy.f32 (BitVec.ofNat 32 d) * Ideal.ofBits FTy.f32 1073741824#32)) (Ideal.ofBits FTy.f32 1115684864#32)
      = ((-(((BitVec.ofNat 32 d).toInt : ℝ) * 2) / 64 : ℝ) : EReal) := by
    rw [ofBits_two, ofBits_64]
    show Ideal.div (-((((BitVec.ofNat 32 d).toInt : ℝ) : EReal) * ((2 : ℝ) : EReal))) ((64 : ℝ) : EReal) = _
    rw [← EReal.coe_mul, ← EReal.coe_neg, div_real _ _ (by norm_num), ← EReal.coe_mul, div_eq_mul_inv]
  unfold angle
  rw [e, ofBits_10000]
  show (((BitVec.ofNat 32 s).toInt : ℝ) : EReal) * ((Real.rpow 10000 _ : ℝ) : EReal) = _
  rw [← EReal.coe_mul]

/-- Finiteness of the layer's arrays, from that of the gain, the query and key columns of the projection, the sinks. -/
theorem Par.of_finite {x : Fin 4096 → Fin 1024 → EReal} {g gp : Fin 1024 → EReal} {w : Fin 1024 → Fin 1536 → EReal} {b : Fin 1536 → EReal}
    {sk : Fin 16 → EReal} {wo : Fin 1024 → Fin 1024 → EReal} {bo : Fin 1024 → EReal}
    (hg : ∀ e, ∃ r : ℝ, g e = r) (hw : ∀ e i, i.val < 1280 → ∃ r : ℝ, w e i = r) (hb : ∀ i, i.val < 1280 → ∃ r : ℝ, b i = r)
    (hsk : ∀ h, ∃ r : ℝ, sk h = r) : (Par.of x g gp w b sk wo bo).Finite where
  g e he := by
    obtain ⟨r, h⟩ := hg ⟨e, he⟩
    exact ⟨r, (ext1_lt g he).trans h⟩
  w e i he hi := by
    obtain ⟨r, h⟩ := hw ⟨e, he⟩ ⟨i, by omega⟩ hi
    exact ⟨r, (ext2_lt w he (by omega)).trans h⟩
  b i hi := by
    obtain ⟨r, h⟩ := hb ⟨i, by omega⟩ hi
    exact ⟨r, (ext1_lt b (by omega)).trans h⟩
  sk h hh := by
    obtain ⟨r, e⟩ := hsk ⟨h, hh⟩
    exact ⟨r, (ext1_lt sk hh).trans e⟩
  c s d _ _ := by
    obtain ⟨r, h⟩ := angle_real s d
    exact ⟨Real.cos r, by show Ideal.cos _ = _; rw [h]; rfl⟩
  s s d _ _ := by
    obtain ⟨r, h⟩ := angle_real s d
    exact ⟨Real.sin r, by show Ideal.sin _ = _; rw [h]; rfl⟩

end Cert.Attn

end
-- ==== Proof.Pieces.lean ====
module

public import proofs.«01_k».proof.Proof.Tile
public import proofs.«01_k».proof.Proof.Gen.KernelIdeal.Frame.RunA
public import proofs.«01_k».proof.Proof.Gen.KernelIdeal.Frame.RunB

/-! What the run of the body leaves at a grid point is what the composed stages give: the run's own terms and the
stages are the same expressions, so each equation is definitional. -/

@[expose] public section

set_option maxRecDepth 16384

noncomputable section

namespace Cert.KernelIdeal.Attn

open Idealize.ShloMosaic Idealize.SL.Sem Cert.KernelIdeal.Gen

variable {F : FTy → Type} [FloatOps F] [Named F]

theorem inbK : ∀ a, (![0, 0] : Fin 2 → ℕ) a + S128x256.size a ≤ S128x256.size a := by decide
theorem inbV : ∀ a, (![0, 0] : Fin 2 → ℕ) a + S256x128.size a ≤ S256x128.size a := by decide

/-- The four sub-tiles of a point, as it stores them, the last first. -/
def Loads.pieces (L : Loads F) : List (View.Piece (Elt F) S1x1024x1024 .f32) :=
  [⟨Rect.unit (s := S1x1024x1024) ![0, 768, 0] S1x256x1024.size (inbX 3), L.out 3⟩,
   ⟨Rect.unit (s := S1x1024x1024) ![0, 512, 0] S1x256x1024.size (inbX 2), L.out 2⟩,
   ⟨Rect.unit (s := S1x1024x1024) ![0, 256, 0] S1x256x1024.size (inbX 1), L.out 1⟩,
   ⟨Rect.unit (s := S1x1024x1024) ![0, 0, 0] S1x256x1024.size (inbX 0), L.out 0⟩]

/-- The output pieces of a point of case A are the four sub-tiles. -/
theorem piecesA (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 = (loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (kernelRun0_A.sl.v54 c arg13) (kernelRun0_A.sl.v55 c arg14)).pieces := by
  sl_kernel_rfl

/-- The carried keys such a point leaves are those of its last block. -/
theorem scratch0A (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 = ⟨Rect.unit (s := S128x256) ![0, 0] S128x256.size inbK, shapeCast S128x256 ((loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (kernelRun0_A.sl.v54 c arg13) (kernelRun0_A.sl.v55 c arg14)).kBlk 3 1) shapeCasts_S128x256_S128x256⟩ :: (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1.tail := by
  sl_kernel_rfl

/-- The carried values such a point leaves are those of its last block. -/
theorem scratch1A (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.val = ⟨Rect.unit (s := S256x128) ![0, 0] S256x128.size inbV, shapeCast S256x128 ((loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (kernelRun0_A.sl.v54 c arg13) (kernelRun0_A.sl.v55 c arg14)).vBlk 3 1) shapeCasts_S256x128_S256x128⟩ :: (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.val.tail := by
  sl_kernel_rfl

/-- The output pieces of a point of case B are the four sub-tiles. -/
theorem piecesB (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : ¬cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) (xs0 : Vec F S128x256 .bf16) (xs1 : Vec F S256x128 .bf16) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1 = (loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (View.readAt (Elt F) arg13.view (Rect.unit (s := S128x256) ![0, 0] S128x256.size inbK).toLoadRect (harg13.unread xs0)) (View.readAt (Elt F) arg14.view (Rect.unit (s := S256x128) ![0, 0] S256x128.size inbV).toLoadRect (harg14.unread xs1))).pieces := by
  sl_kernel_rfl

/-- The carried keys such a point leaves are those of its last block. -/
theorem scratch0B (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : ¬cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) (xs0 : Vec F S128x256 .bf16) (xs1 : Vec F S256x128 .bf16) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).2.1 = [⟨Rect.unit (s := S128x256) ![0, 0] S128x256.size inbK, shapeCast S128x256 ((loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (View.readAt (Elt F) arg13.view (Rect.unit (s := S128x256) ![0, 0] S128x256.size inbK).toLoadRect (harg13.unread xs0)) (View.readAt (Elt F) arg14.view (Rect.unit (s := S256x128) ![0, 0] S256x128.size inbV).toLoadRect (harg14.unread xs1))).kBlk 3 1) shapeCasts_S128x256_S128x256⟩] := by
  sl_kernel_rfl

/-- The carried values such a point leaves are those of its last block. -/
theorem scratch1B (c : Dev nD) (i : grid0.Coords) (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S128x256 .bf16) (harg13 : arg13.IsWhole) (arg14 : Memref sig .tc .vmem S256x128 .bf16) (harg14 : arg14.IsWhole) (hc0 : ¬cond0_0 i)
    (x0 : Vec F S16 .f32) (x1 : Vec F S1x1024x1024 .f32) (x2 : Vec F S1x1024 .f32) (x3 : Vec F S1x1024 .f32) (x4 : Vec F S1536x1024 .bf16) (x5 : Vec F S1536x1 .f32) (x6 : Vec F S32x1024 .f32) (x7 : Vec F S32x1024 .f32) (x8 : Vec F S1024x1024 .bf16) (x9 : Vec F S1x1024 .f32) (xs0 : Vec F S128x256 .bf16) (xs1 : Vec F S256x128 .bf16) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).2.2.val = [⟨Rect.unit (s := S256x128) ![0, 0] S256x128.size inbV, shapeCast S256x128 ((loadsOf (BitVec.ofNat 32 (i 1).val) arg2 harg2 arg3 harg3 arg4 harg4 arg5 harg5 arg6 harg6 arg7 harg7 arg8 harg8 arg9 harg9 arg10 harg10 arg11 harg11 x0 x1 x2 x3 x4 x5 x6 x7 x8 x9 (View.readAt (Elt F) arg13.view (Rect.unit (s := S128x256) ![0, 0] S128x256.size inbK).toLoadRect (harg13.unread xs0)) (View.readAt (Elt F) arg14.view (Rect.unit (s := S256x128) ![0, 0] S256x128.size inbV).toLoadRect (harg14.unread xs1))).vBlk 3 1) shapeCasts_S256x128_S256x128⟩] := by
  sl_kernel_rfl

end Cert.KernelIdeal.Attn

end
-- ==== Proof.Point.lean ====
module

public import proofs.«01_k».proof.Proof.Gen.KernelIdeal.Value
public import proofs.«01_k».proof.Proof.TileValue
public import proofs.«01_k».proof.Proof.Arrays
public import proofs.«01_k».proof.Proof.Pieces
public import Idealize.ShloMosaic.Lib.Pointwise
public import Idealize.ShloMosaic.Lib.Claim
public import Idealize.ShloMosaic.Lib.WholeRead
public import Idealize.ShloMosaic.Lib.Pipeline.ValueKit

/-! One grid point of the attention kernel: what it loads from its blocks, and how the pieces it stores read back. -/

@[expose] public section

set_option maxRecDepth 16384

noncomputable section

namespace Cert.KernelIdeal.Attn

open Idealize.ShloMosaic Idealize.ShloMosaic.TcCoe Idealize.SL.Sem Cert.KernelIdeal Cert.KernelIdeal.Gen Cert.Attn

/-! ## Loads -/

/-- A unit-stride load of a buffer that holds `X` reads `X` at the offset plus the index. -/
theorem load_eq {κ : Kind} {sp : Space} {s : Shape} {e : EltTy} {M : Memref sig κ sp s e} (h : M.IsWhole) (X : s.Idx → Elt Ideal e)
    (off : Fin s.rank → ℕ) (size : Fin s.rank → ℕ) (inb : ∀ a, off a + size a ≤ s.size a) (x : (Rect.unit (s := s) off size inb).toLoadRect.shape.Idx)
    (y : s.Idx) (hy : ∀ a, (y a).val = off a + (x a).val) :
    View.readAt (Elt Ideal) M.view (Rect.unit (s := s) off size inb).toLoadRect (h.unread X) x = X y := by
  refine (h.readAt_unread X _ x).trans (congrArg X (funext fun a => Fin.ext ?_))
  have := hy a
  show off a + 1 * (x a).val = _
  omega

/-- The blocks of a point hold the layer's arrays for one sequence, at tile `j`. -/
structure Blocks (p : Par) (j : ℕ) (x0 : Vec Ideal S16 .f32) (x1 : Vec Ideal S1x1024x1024 .f32) (x2 x3 : Vec Ideal S1x1024 .f32)
    (x4 : Vec Ideal S1536x1024 .bf16) (x5 : Vec Ideal S1536x1 .f32) (x6 x7 : Vec Ideal S32x1024 .f32) (x8 : Vec Ideal S1024x1024 .bf16)
    (x9 : Vec Ideal S1x1024 .f32) : Prop where
  sk : ∀ h : Fin 16, x0 (ix1 h) = p.sk h.val
  x : ∀ r e : Fin 1024, x1 (ix3 0 r e) = p.x (1024 * j + r.val) e.val
  g : ∀ e : Fin 1024, x2 (ix2 0 e) = p.g e.val
  gp : ∀ e : Fin 1024, x3 (ix2 0 e) = p.gp e.val
  w : ∀ (i : Fin 1536) (e : Fin 1024), x4 (ix2 i e) = p.w e.val i.val
  b : ∀ i : Fin 1536, x5 (ix2 i 0) = p.b i.val
  c : ∀ (d : Fin 32) (r : Fin 1024), x6 (ix2 d r) = p.c (1024 * j + r.val) d.val
  s : ∀ (d : Fin 32) (r : Fin 1024), x7 (ix2 d r) = p.s (1024 * j + r.val) d.val
  wo : ∀ e i : Fin 1024, x8 (ix2 e i) = p.wo e.val i.val
  bo : ∀ i : Fin 1024, x9 (ix2 0 i) = p.bo i.val

/-- The mask's offset is minus infinity at the first tile and zero elsewhere. -/
theorem neg_eq (j : ℕ) (hj : j < 4) : k0_pay13 (F := Ideal) (BitVec.ofNat 32 j) = if j = 0 then ⊥ else 0 := by
  rcases (by omega : j = 0 ∨ j = 1 ∨ j = 2 ∨ j = 3) with rfl | rfl | rfl | rfl
  · exact ofBits_negInf
  all_goals exact Ideal.ofBits_zero .f32

section

variable {p : Par} {j : ℕ} {x0 : Vec Ideal S16 .f32} {x1 : Vec Ideal S1x1024x1024 .f32} {x2 x3 : Vec Ideal S1x1024 .f32}
  {x4 : Vec Ideal S1536x1024 .bf16} {x5 : Vec Ideal S1536x1 .f32} {x6 x7 : Vec Ideal S32x1024 .f32} {x8 : Vec Ideal S1024x1024 .bf16}
  {x9 : Vec Ideal S1x1024 .f32}

/-- What a point loads from such blocks represents the layer at tile `j`. -/
theorem rep_of (B : Blocks p j x0 x1 x2 x3 x4 x5 x6 x7 x8 x9) (hj : j < 4)
    (arg2 : Memref sig .tc .smem S16 .f32) (harg2 : arg2.IsWhole) (arg3 : Memref sig .tc .vmem S1x1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1536x1024 .bf16) (harg6 : arg6.IsWhole) (arg7 : Memref sig .tc .vmem S1536x1 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S1024x1024 .bf16) (harg10 : arg10.IsWhole) (arg11 : Memref sig .tc .vmem S1x1024 .f32) (harg11 : arg11.IsWhole)
    (kp : FVec Ideal S128x256 .bf16) (vp : FVec Ideal S256x128 .bf16)
    (hk : ∀ (k : Fin 128) (i : Fin 256), kp (ix2 k i) = p.keyAt (8 * j) k.val i.val)
    (hv : ∀ (i : Fin 256) (k : Fin 128), vp (ix2 i k) = p.valAt (8 * j) k.val i.val) (n : ℕ) (hn : n = j) :
    Rep p (loadsOf (BitVec.ofNat 32 n) arg2 harg2 arg3 harg3 arg4 harg4 arg5 harg5 arg6 harg6 arg7 harg7 arg8 harg8 arg9 harg9 arg10 harg10 arg11 harg11 x0 x1 x2 x3 x4 x5 x6 x7 x8 x9 kp vp) j where
  g e := (load_eq harg4 x2 _ _ _ (ix2 0 e) (ix2 0 e) (by intro a; fin_cases a <;> exact (Nat.zero_add _).symm)).trans (B.g e)
  gp e := (load_eq harg5 x3 _ _ _ (ix2 0 e) (ix2 0 e) (by intro a; fin_cases a <;> exact (Nat.zero_add _).symm)).trans (B.gp e)
  x t r e := by
    refine (load_eq harg3 x1 _ _ _ (ix3 0 r e) (ix3 0 ⟨256 * t.val + r.val, by omega⟩ e) (by intro a; fin_cases a; exacts [rfl, rfl, (Nat.zero_add _).symm])).trans ((B.x _ _).trans ?_)
    rw [← Nat.add_assoc]
  w k r e := (load_eq harg6 x4 _ _ _ (ix2 r e) (ix2 ⟨256 * k.val + r.val, by omega⟩ e) (by intro a; fin_cases a; exacts [rfl, (Nat.zero_add _).symm])).trans (B.w _ _)
  b k r := (load_eq harg7 x5 _ _ _ (ix2 r 0) (ix2 ⟨256 * k.val + r.val, by omega⟩ 0) (by intro a; fin_cases a; exacts [rfl, rfl])).trans (B.b _)
  c t d r := by
    refine (load_eq harg8 x6 _ _ _ (ix2 d r) (ix2 d ⟨256 * t.val + r.val, by omega⟩) (by intro a; fin_cases a; exacts [(Nat.zero_add _).symm, rfl])).trans ((B.c _ _).trans ?_)
    rw [← Nat.add_assoc]
  s t d r := by
    refine (load_eq harg9 x7 _ _ _ (ix2 d r) (ix2 d ⟨256 * t.val + r.val, by omega⟩) (by intro a; fin_cases a; exacts [(Nat.zero_add _).symm, rfl])).trans ((B.s _ _).trans ?_)
    rw [← Nat.add_assoc]
  sk h := (load_eq harg2 x0 _ _ _ _ (ix1 h) (by intro a; fin_cases a; rfl)).trans (B.sk h)
  wo n e i := (load_eq harg10 x8 _ _ _ (ix2 e i) (ix2 e ⟨256 * n.val + i.val, by omega⟩) (by intro a; fin_cases a; exacts [(Nat.zero_add _).symm, rfl])).trans (B.wo _ _)
  bo n i := (load_eq harg11 x9 _ _ _ (ix2 0 i) (ix2 0 ⟨256 * n.val + i.val, by omega⟩) (by intro a; fin_cases a; exacts [rfl, rfl])).trans (B.bo _)
  kp := hk
  vp := hv
  neg := by
    subst hn
    exact neg_eq n hj

end

/-! ## Pieces -/

/-- One stored sub-tile. -/
def piece (L : Loads Ideal) (t : Fin 4) : View.Piece (Elt Ideal) S1x1024x1024 .f32 :=
  ⟨Rect.unit (s := S1x1024x1024) ![0, 256 * t.val, 0] S1x256x1024.size (inbX t), L.out t⟩

theorem pieces_eq (L : Loads Ideal) : L.pieces = [piece L 3, piece L 2, piece L 1, piece L 0] := rfl

theorem mem_pieces (L : Loads Ideal) (t : Fin 4) : piece L t ∈ L.pieces := by
  rw [pieces_eq]
  match t with
  | 0 => exact .tail _ (.tail _ (.tail _ (.head _)))
  | 1 => exact .tail _ (.tail _ (.head _))
  | 2 => exact .tail _ (.head _)
  | 3 => exact .head _

/-- The four sub-tiles, written one after another, read as the layer's result. -/
theorem pieces_apply {p : Par} {L : Loads Ideal} {j : ℕ} (R : Rep p L j) {κ : Kind} {sp : Space} (v : View sig κ sp S1x1024x1024 .f32)
    (f : v.ty.Contents (Elt Ideal)) (r e : Fin 1024) :
    v.read (Elt Ideal) (v.writes (Elt Ideal) f L.pieces) (ix3 0 r e) = p.res p.oKer (1024 * j + r.val) e.val := by
  refine View.read_writes_apply_of_pieces v f (fun y : S1x1024x1024.Idx => p.res p.oKer (1024 * j + (y 1).val) (y 2).val) L.pieces ?_ (ix3 0 r e) ?_
  · have key : ∀ (t : Fin 4) (x : (piece L t).1.shape.Idx),
        (piece L t).2 x = (fun y : S1x1024x1024.Idx => p.res p.oKer (1024 * j + (y 1).val) (y 2).val) ((piece L t).1.emb x) := fun t x => by
      obtain ⟨a, q, i, rfl⟩ : ∃ (a : Fin 1) (q : Fin 256) (i : Fin 1024), x = ix3 a q i := ⟨x 0, x 1, x 2, by funext a; fin_cases a <;> rfl⟩
      obtain rfl : a = 0 := by omega
      refine (out_apply R t q i).trans ?_
      show _ = p.res p.oKer (1024 * j + (256 * t.val + 1 * q.val)) (0 + 1 * i.val)
      congr 1 <;> omega
    intro q hq
    rw [pieces_eq] at hq
    simp only [List.mem_cons, List.not_mem_nil, or_false] at hq
    rcases hq with rfl | rfl | rfl | rfl
    exacts [key 3, key 2, key 1, key 0]
  · refine ⟨piece L ⟨r.val / 256, by omega⟩, mem_pieces L _, (Rect.mem_set_unit (inb := inbX _)).2 ?_⟩
    intro a
    fin_cases a
    · exact ⟨Nat.le_refl _, Nat.zero_lt_one⟩
    · exact ⟨by show 256 * (r.val / 256) ≤ r.val; omega, by show r.val < 256 * (r.val / 256) + 256; omega⟩
    · exact ⟨Nat.zero_le _, by show e.val < 0 + 1024; omega⟩

theorem zeroKeys (c : Dev nD) (arg13 : Memref sig .tc .vmem S128x256 .bf16) (k : Fin 128) (i : Fin 256) :
    kernelRun0_A.sl.v54 (F := Ideal) c arg13 (ix2 k i) = (0 : EReal) := by
  unfold kernelRun0_A.sl.v54 kernelRun0_A.sl.HS0_1
  rw [View.readCov_unit_lit']
  · unfold kernelRun0_A.sl.v3373 kernelRun0_A.sl.v3370
    pointwise
    exact Ideal.ofBits_zero .bf16
  · decide

theorem zeroVals (c : Dev nD) (arg14 : Memref sig .tc .vmem S256x128 .bf16) (i : Fin 256) (k : Fin 128) :
    kernelRun0_A.sl.v55 (F := Ideal) c arg14 (ix2 i k) = (0 : EReal) := by
  unfold kernelRun0_A.sl.v55 kernelRun0_A.sl.HS1_1
  rw [View.readCov_unit_lit']
  · unfold kernelRun0_A.sl.v3377 kernelRun0_A.sl.v3374
    pointwise
    exact Ideal.ofBits_zero .bf16
  · decide

end Cert.KernelIdeal.Attn

end
-- ==== Proof.Blocks.lean ====
module

public import proofs.«01_k».proof.Proof.Point

/-! The attention kernel's blocks: every grid point's blocks are those of its batch and tile. -/

@[expose] public section

set_option maxRecDepth 16384

noncomputable section

namespace Cert.KernelIdeal.Attn

open Idealize.ShloMosaic Idealize.ShloMosaic.TcCoe Idealize.SL.Sem Cert.KernelIdeal Cert.KernelIdeal.Gen Cert.Attn

variable (m : (ℓ : Loc nD τ sig) → Buf (Elt Ideal) ℓ) (c : Dev nD)

/-- The arrays of batch `b`, out of the program's arguments. -/
def par (b : Fin 8) : Par :=
  Par.of (fun s e => m (c, Proc.tc.devRef main_arg0) (ix3 b s e)) (fun e => m (c, Proc.tc.devRef main_arg1) (ix2 0 e))
    (fun e => m (c, Proc.tc.devRef main_arg2) (ix2 0 e)) (fun e i => m (c, Proc.tc.devRef main_arg3) (ix3 0 e i))
    (fun i => m (c, Proc.tc.devRef main_arg4) (ix2 0 i)) (fun h => m (c, Proc.tc.devRef main_arg5) (ix2 0 h))
    (fun e i => m (c, Proc.tc.devRef main_arg6) (ix3 0 e i)) (fun i => m (c, Proc.tc.devRef main_arg7) (ix2 0 i))

/-! ## The host's arrays at an index -/

theorem host_sk (h : Fin 16) : V m c main_v28 (ix1 h) = m (c, Proc.tc.devRef main_arg5) (ix2 0 h) := by entry_read; pointwise
theorem host_g (e : Fin 1024) : V m c main_v19 (ix2 0 e) = m (c, Proc.tc.devRef main_arg1) (ix2 0 e) := by entry_read; pointwise
theorem host_gp (e : Fin 1024) : V m c main_v22 (ix2 0 e) = m (c, Proc.tc.devRef main_arg2) (ix2 0 e) := by entry_read; pointwise
theorem host_w (i : Fin 1536) (e : Fin 1024) : V m c main_v25 (ix2 i e) = m (c, Proc.tc.devRef main_arg3) (ix3 0 e i) := by entry_read; pointwise
theorem host_b (i : Fin 1536) : V m c main_v27 (ix2 i 0) = m (c, Proc.tc.devRef main_arg4) (ix2 0 i) := by entry_read; pointwise
theorem host_wo (e i : Fin 1024) : V m c main_v30 (ix2 e i) = m (c, Proc.tc.devRef main_arg6) (ix3 0 e i) := by entry_read; pointwise
theorem host_bo (i : Fin 1024) : V m c main_v32 (ix2 0 i) = m (c, Proc.tc.devRef main_arg7) (ix2 0 i) := by entry_read; pointwise
theorem host_cos (d : Fin 32) (s : Fin 4096) : V m c main_v15 (ix2 d s) = Ideal.cos (angle s.val d.val) := by
  entry_read
  pointwise
  unfold angle
  rw [mul_comm]
  try rfl
theorem host_sin (d : Fin 32) (s : Fin 4096) : V m c main_v16 (ix2 d s) = Ideal.sin (angle s.val d.val) := by
  entry_read
  pointwise
  unfold angle
  rw [mul_comm]
  try rfl

/-! ## The blocks of a grid point -/

theorem idx0 : ∀ t : Fin cfg0.N, win0_0.index t = ![0] := by decide +kernel
theorem idx1 : ∀ t : Fin cfg0.N, win0_1.index t = ![t.val / 4, t.val % 4, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, t.val % 4] := by decide +kernel
theorem idx7 : ∀ t : Fin cfg0.N, win0_7.index t = ![0, t.val % 4] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![t.val / 4, t.val % 4, 0] := by decide +kernel
theorem tile_eq : ∀ t : Fin cfg0.N, (grid0.coords t 1).val = t.val % 4 := by decide +kernel

theorem lt_32 (t : Fin cfg0.N) : t.val < 32 := lt_of_lt_of_eq t.isLt (show cfg0.N = 32 from N_0)

/-- The batch of a grid point. -/
def batch (t : Fin cfg0.N) : Fin 8 := ⟨t.val / 4, by have := lt_32 t; omega⟩

theorem blk0 (t : Fin cfg0.N) (h : Fin 16) : iblk m c 0 t (ix1 h) = V m c main_v28 (ix1 h) := by blk_ext [iblk, idx0 t]
theorem blk1 (t : Fin cfg0.N) (r e : Fin 1024) : iblk m c 1 t (ix3 0 r e)
    = m (c, Proc.tc.devRef main_arg0) (ix3 ⟨t.val / 4, by have := lt_32 t; omega⟩ ⟨1024 * (t.val % 4) + r.val, by omega⟩ e) := by blk_point [iblk, idx1 t]
theorem blk2 (t : Fin cfg0.N) (e : Fin 1024) : iblk m c 2 t (ix2 0 e) = V m c main_v19 (ix2 0 e) := by blk_ext [iblk, idx2 t]
theorem blk3 (t : Fin cfg0.N) (e : Fin 1024) : iblk m c 3 t (ix2 0 e) = V m c main_v22 (ix2 0 e) := by blk_ext [iblk, idx3 t]
theorem blk4 (t : Fin cfg0.N) (i : Fin 1536) (e : Fin 1024) : iblk m c 4 t (ix2 i e) = V m c main_v25 (ix2 i e) := by blk_ext [iblk, idx4 t]
theorem blk5 (t : Fin cfg0.N) (i : Fin 1536) : iblk m c 5 t (ix2 i 0) = V m c main_v27 (ix2 i 0) := by blk_ext [iblk, idx5 t]
theorem blk6 (t : Fin cfg0.N) (d : Fin 32) (r : Fin 1024) : iblk m c 6 t (ix2 d r) = V m c main_v15 (ix2 d ⟨1024 * (t.val % 4) + r.val, by omega⟩) := by blk_ext [iblk, idx6 t]
theorem blk7 (t : Fin cfg0.N) (d : Fin 32) (r : Fin 1024) : iblk m c 7 t (ix2 d r) = V m c main_v16 (ix2 d ⟨1024 * (t.val % 4) + r.val, by omega⟩) := by blk_ext [iblk, idx7 t]
theorem blk8 (t : Fin cfg0.N) (e i : Fin 1024) : iblk m c 8 t (ix2 e i) = V m c main_v30 (ix2 e i) := by blk_ext [iblk, idx8 t]
theorem blk9 (t : Fin cfg0.N) (i : Fin 1024) : iblk m c 9 t (ix2 0 i) = V m c main_v32 (ix2 0 i) := by blk_ext [iblk, idx9 t]

/-- A grid point's blocks are those of its batch, at its tile. -/
theorem blocks (t : Fin cfg0.N) : Blocks (par m c (batch t)) (t.val % 4) (iblk m c 0 t) (iblk m c 1 t) (iblk m c 2 t) (iblk m c 3 t)
    (iblk m c 4 t) (iblk m c 5 t) (iblk m c 6 t) (iblk m c 7 t) (iblk m c 8 t) (iblk m c 9 t) where
  sk h := (blk0 m c t h).trans ((host_sk m c h).trans (ext1_val (fun h => m (c, Proc.tc.devRef main_arg5) (ix2 0 h)) h).symm)
  x r e := (blk1 m c t r e).trans (ext2_lt (fun s e => m (c, Proc.tc.devRef main_arg0) (ix3 (batch t) s e)) (by omega : 1024 * (t.val % 4) + r.val < 4096) e.isLt).symm
  g e := (blk2 m c t e).trans ((host_g m c e).trans (ext1_val (fun e => m (c, Proc.tc.devRef main_arg1) (ix2 0 e)) e).symm)
  gp e := (blk3 m c t e).trans ((host_gp m c e).trans (ext1_val (fun e => m (c, Proc.tc.devRef main_arg2) (ix2 0 e)) e).symm)
  w i e := (blk4 m c t i e).trans ((host_w m c i e).trans (ext2_val (fun e i => m (c, Proc.tc.devRef main_arg3) (ix3 0 e i)) e i).symm)
  b i := (blk5 m c t i).trans ((host_b m c i).trans (ext1_val (fun i => m (c, Proc.tc.devRef main_arg4) (ix2 0 i)) i).symm)
  c d r := (blk6 m c t d r).trans (host_cos m c d _)
  s d r := (blk7 m c t d r).trans (host_sin m c d _)
  wo e i := (blk8 m c t e i).trans ((host_wo m c e i).trans (ext2_val (fun e i => m (c, Proc.tc.devRef main_arg6) (ix3 0 e i)) e i).symm)
  bo i := (blk9 m c t i).trans ((host_bo m c i).trans (ext1_val (fun i => m (c, Proc.tc.devRef main_arg7) (ix2 0 i)) i).symm)

end Cert.KernelIdeal.Attn

end
-- ==== Proof.Array.lean ====
module

public import proofs.«01_k».proof.Proof.Blocks
public import Idealize.ShloMosaic.Lib.WritesUnit

/-! The kernel's result array: the scratch carries the keys and values of the last block of the tile before, and the
blocks the points write make up the result. -/

@[expose] public section

set_option maxRecDepth 16384

noncomputable section

namespace Cert.KernelIdeal.Attn

open Idealize.ShloMosaic Idealize.ShloMosaic.TcCoe Idealize.SL.Sem Cert.KernelIdeal Cert.KernelIdeal.Gen Cert.Attn

variable (m : (ℓ : Loc nD τ sig) → Buf (Elt Ideal) ℓ) (c : Dev nD)

/-! ## What the points leave -/

/-- The keys and values carried after a point are those of the last block of its tile. -/
structure Carried (p : Par) (j : ℕ) (k : Vec Ideal S128x256 .bf16) (v : Vec Ideal S256x128 .bf16) : Prop where
  k : ∀ (q : Fin 128) (i : Fin 256), k (ix2 q i) = p.rot (128 * (8 * j + 7) + q.val) (1024 + i.val)
  v : ∀ (i : Fin 256) (q : Fin 128), v (ix2 i q) = p.qkv (128 * (8 * j + 7) + q.val) (1280 + i.val)

theorem keyAt_zero (p : Par) (k : Fin 128) (i : ℕ) : p.keyAt (8 * 0) k.val i = 0 := by
  unfold Par.keyAt
  rw [if_pos k.isLt, if_pos rfl]

theorem valAt_zero (p : Par) (k : Fin 128) (i : ℕ) : p.valAt (8 * 0) k.val i = 0 := by
  unfold Par.valAt
  rw [if_pos k.isLt, if_pos rfl]

theorem keyAt_succ (p : Par) (j : ℕ) (hj : j ≠ 0) (k : Fin 128) (i : ℕ) : p.keyAt (8 * j) k.val i = p.rot (128 * (8 * (j - 1) + 7) + k.val) (1024 + i) := by
  unfold Par.keyAt
  rw [if_pos k.isLt, if_neg (by omega), (by omega : 8 * j - 1 = 8 * (j - 1) + 7)]

theorem valAt_succ (p : Par) (j : ℕ) (hj : j ≠ 0) (k : Fin 128) (i : ℕ) : p.valAt (8 * j) k.val i = p.qkv (128 * (8 * (j - 1) + 7) + k.val) (1280 + i) := by
  unfold Par.valAt
  rw [if_pos k.isLt, if_neg (by omega), (by omega : 8 * j - 1 = 8 * (j - 1) + 7)]

/-- The last piece written over the whole buffer is what the buffer reads as. -/
theorem read_last {κ : Kind} {sp : Space} {s : Shape} {e : EltTy} (v : View sig κ sp s e) (f : v.ty.Contents (Elt Ideal)) (off : Fin s.rank → ℕ)
    (inb : ∀ a, off a + s.size a ≤ s.size a) (w : (Rect.unit (s := s) off s.size inb).shape.Idx → Elt Ideal e) (L : List (View.Piece (Elt Ideal) s e)) (h0 : ∀ a, off a = 0) (y : s.Idx) :
    v.read (Elt Ideal) (v.writes (Elt Ideal) f (⟨Rect.unit (s := s) off s.size inb, w⟩ :: L)) y = w y :=
  View.read_writes_cons_unit_of_mem v f inb w L y y rfl (fun a => by rw [h0 a]; exact (Nat.zero_add _).symm)

theorem shapeCastK (X : FVec Ideal S128x256 .bf16) (q : Fin 128) (i : Fin 256) : shapeCast S128x256 X shapeCasts_S128x256_S128x256 (ix2 q i) = X (ix2 q i) := by
  pointwise

theorem shapeCastV (X : FVec Ideal S256x128 .bf16) (q : Fin 256) (i : Fin 128) : shapeCast S256x128 X shapeCasts_S256x128_S256x128 (ix2 q i) = X (ix2 q i) := by
  pointwise

theorem carried_of {p : Par} {L : Loads Ideal} {j : ℕ} (R : Rep p L j) : Carried p j (L.kBlk 3 1) (L.vBlk 3 1) where
  k q i := kBlk_apply R 3 1 q i
  v i q := vBlk_apply R 3 1 i q

theorem loadK {M : Memref sig .tc .vmem S128x256 .bf16} (h : M.IsWhole) (X : Vec Ideal S128x256 .bf16) (k : Fin 128) (i : Fin 256) :
    View.readAt (Elt Ideal) M.view (Rect.unit (s := S128x256) ![0, 0] S128x256.size inbK).toLoadRect (h.unread X) (ix2 k i) = X (ix2 k i) :=
  load_eq h X _ _ _ (ix2 k i) (ix2 k i) (by intro a; fin_cases a <;> exact (Nat.zero_add _).symm)

theorem loadV {M : Memref sig .tc .vmem S256x128 .bf16} (h : M.IsWhole) (X : Vec Ideal S256x128 .bf16) (i : Fin 256) (k : Fin 128) :
    View.readAt (Elt Ideal) M.view (Rect.unit (s := S256x128) ![0, 0] S256x128.size inbV).toLoadRect (h.unread X) (ix2 i k) = X (ix2 i k) :=
  load_eq h X _ _ _ (ix2 i k) (ix2 i k) (by intro a; fin_cases a <;> exact (Nat.zero_add _).symm)

/-- A point's loads, in either case. -/
def pointLoads (t : Fin cfg0.N) (kp : FVec Ideal S128x256 .bf16) (vp : FVec Ideal S256x128 .bf16) : Loads Ideal :=
  loadsOf (BitVec.ofNat 32 (grid0.coords t 1).val) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t) (iblk m c 8 t) (iblk m c 9 t) kp vp

theorem pointRep (t : Fin cfg0.N) (kp : FVec Ideal S128x256 .bf16) (vp : FVec Ideal S256x128 .bf16)
    (hk : ∀ (k : Fin 128) (i : Fin 256), kp (ix2 k i) = (par m c (batch t)).keyAt (8 * (t.val % 4)) k.val i.val)
    (hv : ∀ (i : Fin 256) (k : Fin 128), vp (ix2 i k) = (par m c (batch t)).valAt (8 * (t.val % 4)) k.val i.val) :
    Rep (par m c (batch t)) (pointLoads m c t kp vp) (t.val % 4) :=
  rep_of (blocks m c t) (Nat.mod_lt _ (by norm_num)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) kp vp hk hv _ (tile_eq t)

/-- What a point is to leave: the layer's result at its tile, and the keys and values of the tile's last block. -/
def Leaves (t : Fin cfg0.N) (o : Vec Ideal S1x1024x1024 .f32 × Vec Ideal S128x256 .bf16 × Vec Ideal S256x128 .bf16) : Prop :=
  (∀ r e : Fin 1024, o.1 (ix3 0 r e) = (par m c (batch t)).res (par m c (batch t)).oKer (1024 * (t.val % 4) + r.val) e.val)
    ∧ Carried (par m c (batch t)) (t.val % 4) o.2.1 o.2.2

/-- The first point of a batch. -/
theorem pointA (t : Fin cfg0.N) (h0 : t.val % 4 = 0) : Leaves m c t (outsAt0 m c t.val t.isLt) := by
  have R : Rep (par m c (batch t)) (pointLoads m c t (kernelRun0_A.sl.v54 (F := Ideal) c scM0_0) (kernelRun0_A.sl.v55 (F := Ideal) c scM0_1)) (t.val % 4) :=
    pointRep m c t _ _ (fun k i => by rw [h0, keyAt_zero]; exact zeroKeys c _ k i) (fun i k => by rw [h0, valAt_zero]; exact zeroVals c _ i k)
  rw [outsAt0_A m c t h0]
  refine ⟨fun r e => ?_, ⟨fun q i => ?_, fun i q => ?_⟩⟩
  · dsimp only
    unfold out0_A_10
    rw [piecesA]
    exact pieces_apply R _ _ r e
  · dsimp only
    unfold sout0_A_0
    rw [scratch0A]
    exact (read_last _ _ _ _ _ _ (by decide) _).trans ((shapeCastK _ q i).trans ((carried_of R).k q i))
  · dsimp only
    unfold sout0_A_1
    rw [scratch1A]
    exact (read_last _ _ _ _ _ _ (by decide) _).trans ((shapeCastV _ i q).trans ((carried_of R).v i q))

/-- A later point of a batch, after the point before. -/
theorem pointB (t : Fin cfg0.N) (h0 : ¬t.val % 4 = 0) (h1 : t.val - 1 < cfg0.N) (ih : Leaves m c ⟨t.val - 1, h1⟩ (outsAt0 m c (t.val - 1) h1)) :
    Leaves m c t (outsAt0 m c t.val t.isLt) := by
  have hb : batch ⟨t.val - 1, h1⟩ = batch t := Fin.ext (by show (t.val - 1) / 4 = t.val / 4; omega)
  have hj : (t.val - 1) % 4 = t.val % 4 - 1 := by omega
  have hc := ih.2
  rw [hb] at hc
  change Carried (par m c (batch t)) ((t.val - 1) % 4) _ _ at hc
  rw [hj] at hc
  have R := pointRep m c t
    (View.readAt (Elt Ideal) scM0_0.view (Rect.unit (s := S128x256) ![0, 0] S128x256.size inbK).toLoadRect ((Memref.isWhole_whole _ : scM0_0.IsWhole).unread (outsAt0 m c (t.val - 1) h1).2.1))
    (View.readAt (Elt Ideal) scM0_1.view (Rect.unit (s := S256x128) ![0, 0] S256x128.size inbV).toLoadRect ((Memref.isWhole_whole _ : scM0_1.IsWhole).unread (outsAt0 m c (t.val - 1) h1).2.2))
    (fun k i => by
      rw [keyAt_succ _ _ h0]
      exact (loadK (Memref.isWhole_whole _ : scM0_0.IsWhole) _ k i).trans (hc.k k i))
    (fun i k => by
      rw [valAt_succ _ _ h0]
      exact (loadV (Memref.isWhole_whole _ : scM0_1.IsWhole) _ i k).trans (hc.v i k))
  rw [outsAt0_B m c t h0]
  refine ⟨fun r e => ?_, ⟨fun q i => ?_, fun i q => ?_⟩⟩
  · dsimp only
    unfold out0_B_10
    rw [piecesB]
    exact pieces_apply R _ _ r e
  · dsimp only
    unfold sout0_B_0
    rw [scratch0B]
    exact (read_last _ _ _ _ _ _ (by decide) _).trans ((shapeCastK _ q i).trans ((carried_of R).k q i))
  · dsimp only
    unfold sout0_B_1
    rw [scratch1B]
    exact (read_last _ _ _ _ _ _ (by decide) _).trans ((shapeCastV _ i q).trans ((carried_of R).v i q))

/-- Every point. -/
theorem points (n : ℕ) (hn : n < cfg0.N) : Leaves m c ⟨n, hn⟩ (outsAt0 m c n hn) := by
  induction n with
  | zero => exact pointA m c ⟨0, hn⟩ rfl
  | succ n ih =>
    by_cases h0 : (n + 1) % 4 = 0
    · exact pointA m c ⟨n + 1, hn⟩ h0
    · exact pointB m c ⟨n + 1, hn⟩ h0 (Nat.lt_of_succ_lt hn) (ih _)

/-- The result array of the kernel is the layer's result, every batch and position. -/
theorem arr_eq : (dats m 0 c).arrAt 10 cfg0.N = fun i : S8x4096x1024.Idx => (par m c (i 0)).res (par m c (i 0)).oKer (i 1).val (i 2).val := by
  refine (dats m 0 c).arrAt_eq_of_covers 10 _ (by decide +kernel) fun t hf y => ?_
  blk_simp
  rw [after0_10]
  obtain ⟨a, r, e, rfl⟩ : ∃ (a : Fin 1) (r e : Fin 1024), y = ix3 a r e := ⟨y 0, y 1, y 2, by funext a; fin_cases a <;> rfl⟩
  obtain rfl : a = 0 := by omega
  refine ((points m c t.val t.isLt).1 r e).trans ?_
  have e0 : (((cfg0.win 10).blk t).view.emb (ix3 0 r e) : S8x4096x1024.Idx) 0 = batch t := Fin.ext (by unfold batch; blk_simp [idx10 t]; exact Nat.add_zero _)
  dsimp only
  rw [e0, idx10 t]
  show _ = (par m c (batch t)).res (par m c (batch t)).oKer (t.val % 4 * 1024 + r.val) (0 * 1024 + e.val)
  rw [Nat.mul_comm (t.val % 4), Nat.zero_mul, Nat.zero_add]

end Cert.KernelIdeal.Attn

end
-- ==== Proof.RefParts.lean ====
module

public import proofs.«01_k».proof.Proof.Gen.ReferenceIdeal.Run
public import proofs.«01_k».proof.Proof.Arrays
public import Idealize.ShloMosaic.Lib.Pointwise
public import Idealize.ShloMosaic.Lib.Claim

/-! The parts of the reference's attention at an index: its projection, its rotated queries and keys, its values. -/

@[expose] public section

set_option maxRecDepth 16384

noncomputable section

namespace Cert.ReferenceIdeal.Attn

open Idealize.ShloMosaic Idealize.ShloMosaic.TcCoe Idealize.SL.Sem Cert.ReferenceIdeal Cert.ReferenceIdeal.Gen Cert.ReferenceIdeal.Value Cert.Attn

variable (V0 : Valuation τ sig (Elt Ideal))

/-- The arrays of batch `b`, out of the program's arguments. -/
def par (b : Fin 8) : Par :=
  Par.of (fun s e => V0 (Proc.devRef .tc main_arg0) (ix3 b s e)) (fun e => V0 (Proc.devRef .tc main_arg1) (ix2 0 e))
    (fun e => V0 (Proc.devRef .tc main_arg2) (ix2 0 e)) (fun e i => V0 (Proc.devRef .tc main_arg3) (ix3 0 e i))
    (fun i => V0 (Proc.devRef .tc main_arg4) (ix2 0 i)) (fun h => V0 (Proc.devRef .tc main_arg5) (ix2 0 h))
    (fun e i => V0 (Proc.devRef .tc main_arg6) (ix3 0 e i)) (fun i => V0 (Proc.devRef .tc main_arg7) (ix2 0 i))

theorem par_x (b : Fin 8) (s : Fin 4096) (e : Fin 1024) : (par V0 b).x s.val e.val = V0 (Proc.devRef .tc main_arg0) (ix3 b s e) :=
  ext2_val (fun s e => V0 (Proc.devRef .tc main_arg0) (ix3 b s e)) s e
theorem par_g (b : Fin 8) (e : Fin 1024) : (par V0 b).g e.val = V0 (Proc.devRef .tc main_arg1) (ix2 0 e) :=
  ext1_val (fun e => V0 (Proc.devRef .tc main_arg1) (ix2 0 e)) e
theorem par_gp (b : Fin 8) (e : Fin 1024) : (par V0 b).gp e.val = V0 (Proc.devRef .tc main_arg2) (ix2 0 e) :=
  ext1_val (fun e => V0 (Proc.devRef .tc main_arg2) (ix2 0 e)) e
theorem par_w (b : Fin 8) (e : Fin 1024) (i : Fin 1536) : (par V0 b).w e.val i.val = V0 (Proc.devRef .tc main_arg3) (ix3 0 e i) :=
  ext2_val (fun e i => V0 (Proc.devRef .tc main_arg3) (ix3 0 e i)) e i
theorem par_b (b : Fin 8) (i : Fin 1536) : (par V0 b).b i.val = V0 (Proc.devRef .tc main_arg4) (ix2 0 i) :=
  ext1_val (fun i => V0 (Proc.devRef .tc main_arg4) (ix2 0 i)) i
theorem par_sk (b : Fin 8) (h : Fin 16) : (par V0 b).sk h.val = V0 (Proc.devRef .tc main_arg5) (ix2 0 h) :=
  ext1_val (fun h => V0 (Proc.devRef .tc main_arg5) (ix2 0 h)) h
theorem par_wo (b : Fin 8) (e i : Fin 1024) : (par V0 b).wo e.val i.val = V0 (Proc.devRef .tc main_arg6) (ix3 0 e i) :=
  ext2_val (fun e i => V0 (Proc.devRef .tc main_arg6) (ix3 0 e i)) e i
theorem par_bo (b : Fin 8) (i : Fin 1024) : (par V0 b).bo i.val = V0 (Proc.devRef .tc main_arg7) (ix2 0 i) :=
  ext1_val (fun i => V0 (Proc.devRef .tc main_arg7) (ix2 0 i)) i

/-- The projection. -/
theorem qkv_apply (b : Fin 8) (s : Fin 4096) (i : Fin 1536) : res_main_v23 V0 (ix3 b s i) = (par V0 b).qkv s.val i.val := by
  pointwise [res_main_v23]
  simp only [Par.qkv, Par.hid, Cert.Attn.norm, par_x, par_g, par_w, par_b]

/-- The rotary tables. -/
theorem cosQ (s : Fin 4096) (d : Fin 32) : res_main_v46 V0 (ix4 0 s 0 d) = Ideal.cos (angle s.val d.val) := by
  pointwise [res_main_v46, res_main_v44, res_main_v30]
  try rfl
theorem sinQ (s : Fin 4096) (d : Fin 32) : res_main_v48 V0 (ix4 0 s 0 d) = Ideal.sin (angle s.val d.val) := by
  pointwise [res_main_v48, res_main_v44, res_main_v30]
  try rfl
theorem cosK (s : Fin 4096) (d : Fin 32) : res_main_v77 V0 (ix4 0 s 0 d) = Ideal.cos (angle s.val d.val) := by
  pointwise [res_main_v77, res_main_v75, res_main_v30]
  try rfl
theorem sinK (s : Fin 4096) (d : Fin 32) : res_main_v79 V0 (ix4 0 s 0 d) = Ideal.sin (angle s.val d.val) := by
  pointwise [res_main_v79, res_main_v75, res_main_v30]
  try rfl

/-- The halves of the queries' and the keys' heads. -/
theorem queryLo (b : Fin 8) (s : Fin 4096) (h : Fin 16) (d : Fin 32) : res_main_v49 V0 (ix4 b s h d) = (par V0 b).qkv s.val (64 * h.val + d.val) := by
  pointwise [res_main_v49, res_main_v25]
  rw [qkv_apply]
  congr 1
  dsimp only
  omega
theorem queryHi (b : Fin 8) (s : Fin 4096) (h : Fin 16) (d : Fin 32) : res_main_v50 V0 (ix4 b s h d) = (par V0 b).qkv s.val (64 * h.val + d.val + 32) := by
  pointwise [res_main_v50, res_main_v25]
  rw [qkv_apply]
  congr 1
  dsimp only
  omega
theorem keyLo (b : Fin 8) (s : Fin 4096) (h : Fin 4) (d : Fin 32) : res_main_v80 V0 (ix4 b s h d) = (par V0 b).qkv s.val (1024 + 64 * h.val + d.val) := by
  pointwise [res_main_v80, res_main_v27]
  rw [qkv_apply]
  congr 1
  dsimp only
  omega
theorem keyHi (b : Fin 8) (s : Fin 4096) (h : Fin 4) (d : Fin 32) : res_main_v81 V0 (ix4 b s h d) = (par V0 b).qkv s.val (1024 + 64 * h.val + d.val + 32) := by
  pointwise [res_main_v81, res_main_v27]
  rw [qkv_apply]
  congr 1
  dsimp only
  omega

/-- A rotated head, its two halves spelt out. -/
theorem rotCol_halves (f c s : ℕ → EReal) (j d : ℕ) (hj : j % 64 = 0) (hd : d < 64) :
    rotCol f c s (j + d) = if d < 32 then f (j + d) * c d - f (j + d + 32) * s d
      else f (j + (d - 32) + 32) * c (d - 32) + f (j + (d - 32)) * s (d - 32) := by
  have e : (j + d) % 64 = d := by omega
  unfold rotCol
  rw [e]
  split
  · rfl
  · rw [(by omega : j + (d - 32) + 32 = j + d), (by omega : j + (d - 32) = j + d - 32)]

/-- The rotated keys. -/
theorem key_apply (b : Fin 8) (n : Fin 32) (q : Fin 128) (h : Fin 4) (d : Fin 64) :
    res_main_v94 V0 (ix5 b n q h d) = (par V0 b).rot (128 * n.val + q.val) (1024 + (64 * h.val + d.val)) := by
  pointwise [res_main_v94]
  unfold Par.rot
  rw [← Nat.add_assoc, rotCol_halves _ _ _ _ _ (by omega) d.isLt]
  simp only [keyLo, keyHi, cosK, sinK, Nat.mul_comm n.val 128]
  by_cases hd : d.val < 32
  · rw [dif_pos hd, if_pos hd]
    rfl
  · rw [dif_neg hd, if_neg hd]
    rfl

/-- The values. -/
theorem val_apply (b : Fin 8) (n : Fin 32) (q : Fin 128) (h : Fin 4) (d : Fin 64) :
    res_main_v95 V0 (ix5 b n q h d) = (par V0 b).qkv (128 * n.val + q.val) (1280 + (64 * h.val + d.val)) := by
  pointwise [res_main_v95]
  rw [qkv_apply]
  congr 1 <;> simp only [Nat.mul_comm]

/-- The sinks. -/
theorem sink_apply (b : Fin 8) (h g : Fin 4) : res_main_v141 V0 (ix6 0 0 h g 0 0) = (par V0 b).sk (4 * h.val + g.val) := by
  pointwise [res_main_v141]
  rw [Nat.mul_comm 4]
  exact (par_sk V0 b ⟨h.val * 4 + g.val, by omega⟩).symm

/-! ## Reductions over the keys -/

theorem reduces : Shape.Reduces S8x32x4x4x128x256 [5] S8x32x4x4x128 := by decide

theorem lift_eq (b : Fin 8) (n : Fin 32) (h g : Fin 4) (q : Fin 128) (k : Fin 256) : reduces.lift (ix5 b n h g q) k = ix6 b n h g q k := by
  funext a
  fin_cases a <;> rfl

theorem ofBits_negInf : Ideal.ofBits .f32 4286578688#32 = ⊥ := by
  simp [Ideal.ofBits, Ideal.ieee]

theorem max_apply (X : FVec Ideal S8x32x4x4x128x256 .f32) (b : Fin 8) (n : Fin 32) (h g : Fin 4) (q : Fin 128) :
    Host.reduce FloatOps.maximumf X (constant S_ .f32 0xFF800000#32) reducesTo_S8x32x4x4x128x256_S8x32x4x4x128_d5 h_S_ (ix5 b n h g q)
      = Finset.fold max ⊥ (fun k : Fin 256 => X (ix6 b n h g q k)) Finset.univ := by
  rw [Host.reduce_eq_fold_single _ _ _ _ reduces]
  have e : (X ∘ reduces.lift (ix5 b n h g q)) = fun k : Fin 256 => X (ix6 b n h g q k) := funext fun k => congrArg X (lift_eq b n h g q k)
  rw [e]
  exact congrArg (fun z => Finset.fold max z (fun k : Fin 256 => X (ix6 b n h g q k)) Finset.univ) ofBits_negInf

theorem sum_apply (X : FVec Ideal S8x32x4x4x128x256 .f32) (b : Fin 8) (n : Fin 32) (h g : Fin 4) (q : Fin 128) :
    Host.reduceAdd X (constant S_ .f32 0x00000000#32) reducesTo_S8x32x4x4x128x256_S8x32x4x4x128_d5 h_S_ (ix5 b n h g q)
      = ∑ k : Fin 256, X (ix6 b n h g q k) := by
  refine (Ideal.hostReduceAdd_single _ reduces _ _ _).trans ?_
  refine (congrArg (· + _) (Ideal.ofBits_zero .f32)).trans ((zero_add _).trans ?_)
  exact Finset.sum_congr rfl fun k _ => congrArg X (lift_eq b n h g q k)

end Cert.ReferenceIdeal.Attn

end
-- ==== Proof.RefWords.lean ====
module

public import proofs.«01_k».proof.Proof.Softmax

/-! The tests of the reference's mask as words. -/

@[expose] public section

set_option maxRecDepth 16384

namespace Cert.Attn

open Idealize.ShloMosaic

/-- The window's test as a word: the key is within the band of the query. -/
theorem band_word : ∀ (q : Fin 128) (k : Fin 256), IntOp.andi (IntOp.cmpi CmpIPredicate.sle (BitVec.ofNat 32 k.val) (IntOp.addi (BitVec.ofNat 32 q.val) 128#32))
    (IntOp.cmpi CmpIPredicate.slt (IntOp.subi (IntOp.addi (BitVec.ofNat 32 q.val) 128#32) (BitVec.ofNat 32 k.val)) 128#32)
      = if k.val ≤ q.val + 128 ∧ q.val < k.val then 1#1 else 0#1 := by
  decide +kernel

/-- The first block's test as a word: no key before the first position. -/
theorem start_word : ∀ (n : Fin 32) (k : Fin 256), IntOp.cmpi CmpIPredicate.sge
    (IntOp.subi (IntOp.addi (IntOp.muli (BitVec.ofNat 32 n.val) 128#32) (BitVec.ofNat 32 k.val)) 128#32) 0#32
      = if n.val = 0 → 128 ≤ k.val then 1#1 else 0#1 := by
  decide +kernel

end Cert.Attn

end
-- ==== Proof.RefValue.lean ====
module

public import proofs.«01_k».proof.Proof.RefParts
public import proofs.«01_k».proof.Proof.RefWords

/-! The reference's attention at an index. -/

@[expose] public section

set_option maxRecDepth 16384

noncomputable section

namespace Cert.ReferenceIdeal.Attn

open Idealize.ShloMosaic Idealize.ShloMosaic.TcCoe Idealize.SL.Sem Cert.ReferenceIdeal Cert.ReferenceIdeal.Gen Cert.ReferenceIdeal.Value Cert.Attn

variable (V0 : Valuation τ sig (Elt Ideal))

/-- A band of two blocks for every block: the one before (zero before the first), then its own. -/
def band (X : FVec Ideal S8x32x128x4x64 .f32) : FVec Ideal S8x32x256x4x64 .f32 :=
  concatenate S8x32x256x4x64 2 [⟨S8x32x128x4x64, (concatenate S8x32x128x4x64 1 [⟨S8x1x128x4x64, (res_main_v97 V0)⟩, ⟨S8x31x128x4x64, (extractStridedSlice S8x31x128x4x64 ![0, 0, 0, 0, 0] X slices_S8x32x128x4x64_S8x31x128x4x64_0_0_0_0_0)⟩] concatenates_S8x1x128x4x64_S8x31x128x4x64_S8x32x128x4x64_d1)⟩, ⟨S8x32x128x4x64, X⟩] concatenates_S8x32x128x4x64_S8x32x128x4x64_S8x32x256x4x64_d2

/-- The rotated queries, by block and group. -/
def queries : FVec Ideal S8x32x128x4x4x64 .f32 :=
  shapeCast _ (concatenate S8x4096x16x64 3 [⟨S8x4096x16x32, (subf (mulf (res_main_v49 V0) (broadcastInDim S8x4096x16x32 ![0, 1, 2, 3] bcast_S1x4096x1x32_S8x4096x16x32_0_1_2_3 (res_main_v46 V0))) (mulf (res_main_v50 V0) (broadcastInDim S8x4096x16x32 ![0, 1, 2, 3] bcast_S1x4096x1x32_S8x4096x16x32_0_1_2_3 (res_main_v48 V0))))⟩, ⟨S8x4096x16x32, (addf (mulf (res_main_v50 V0) (broadcastInDim S8x4096x16x32 ![0, 1, 2, 3] bcast_S1x4096x1x32_S8x4096x16x32_0_1_2_3 (res_main_v46 V0))) (mulf (res_main_v49 V0) (broadcastInDim S8x4096x16x32 ![0, 1, 2, 3] bcast_S1x4096x1x32_S8x4096x16x32_0_1_2_3 (res_main_v48 V0))))⟩] concatenates_S8x4096x16x32_S8x4096x16x32_S8x4096x16x64_d3) shapeCasts_S8x4096x16x64_S8x32x128x4x4x64

/-- The keys a query may see. -/
def mask : IVec S8x32x4x4x128x256 1 :=
  broadcastInDim S8x32x4x4x128x256 ![0, 1, 2, 3, 4, 5] bcast_S1x32x1x1x128x256_S8x32x4x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sle (broadcastInDim S128x256 ![0, 1] bcast_S1x256_S128x256_0_1 (res_main_v113 V0)) (broadcastInDim S128x256 ![0, 1] bcast_S128x1_S128x256_0_1 (res_main_v111 V0))) (cmpi .slt (subi (broadcastInDim S128x256 ![0, 1] bcast_S128x1_S128x256_0_1 (res_main_v111 V0)) (broadcastInDim S128x256 ![0, 1] bcast_S1x256_S128x256_0_1 (res_main_v113 V0))) (broadcastInDim S128x256 ![] bcast_S_S128x256 (constantI S_ 32 128#32)))))) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (res_main_v113 V0)))) (broadcastInDim S32x1x256 ![] bcast_S_S32x1x256 (constantI S_ 32 128#32))) (broadcastInDim S32x1x256 ![] bcast_S_S32x1x256 (constantI S_ 32 0#32))))))

/-- The scaled products of the keys with the queries. -/
def scores : FVec Ideal S8x32x4x4x128x256 .f32 :=
  mulf (transpose S8x32x4x4x128x256 [0, 1, 2, 5, 4, 3] (Host.dotGeneral dot_S8x32x256x4x64_S8x32x128x4x4x64_S8x32x4x256x128x4_4_5_2_24_013_013 none (band V0 (res_main_v94 V0)) (queries V0)) transposes_S8x32x4x256x128x4_S8x32x4x4x128x256_0_1_2_5_4_3) (broadcastInDim S8x32x4x4x128x256 ![] bcast_S_S8x32x4x4x128x256 (constant S_ .f32 0x3E000000#32))

theorem masked_eq : res_main_v140 V0 = select (mask V0) (scores V0) (broadcastInDim S8x32x4x4x128x256 ![] bcast_S_S8x32x4x4x128x256 (id (constant S_ .f32 0xFF800000#32))) := rfl

theorem band_apply (X : FVec Ideal S8x32x128x4x64 .f32) (b : Fin 8) (n : Fin 32) (k : Fin 256) (h : Fin 4) (d : Fin 64) :
    band V0 X (ix5 b n k h d) = if hk : k.val < 128 then (if hn : n.val < 1 then (0 : EReal) else X (ix5 b ⟨n.val - 1, by omega⟩ ⟨k.val, hk⟩ h d))
      else X (ix5 b n ⟨k.val - 128, by omega⟩ h d) := by
  pointwise [band, res_main_v97]

theorem bandKey_apply (b : Fin 8) (n : Fin 32) (k : Fin 256) (h : Fin 4) (d : Fin 64) :
    band V0 (res_main_v94 V0) (ix5 b n k h d) = (par V0 b).keyAt n.val k.val (64 * h.val + d.val) := by
  rw [band_apply]
  simp only [key_apply]
  unfold Par.keyAt
  by_cases hk : k.val < 128
  · rw [dif_pos hk, if_pos hk]
    by_cases hn : n.val < 1
    · rw [dif_pos hn, if_pos (by omega)]
    · rw [dif_neg hn, if_neg (by omega)]
  · rw [dif_neg hk, if_neg hk]

theorem bandVal_apply (b : Fin 8) (n : Fin 32) (k : Fin 256) (h : Fin 4) (d : Fin 64) :
    band V0 (res_main_v95 V0) (ix5 b n k h d) = (par V0 b).valAt n.val k.val (64 * h.val + d.val) := by
  rw [band_apply]
  simp only [val_apply]
  unfold Par.valAt
  by_cases hk : k.val < 128
  · rw [dif_pos hk, if_pos hk]
    by_cases hn : n.val < 1
    · rw [dif_pos hn, if_pos (by omega)]
    · rw [dif_neg hn, if_neg (by omega)]
  · rw [dif_neg hk, if_neg hk]

theorem query_apply (b : Fin 8) (n : Fin 32) (q : Fin 128) (h g : Fin 4) (d : Fin 64) :
    queries V0 (ix6 b n q h g d) = (par V0 b).rot (128 * n.val + q.val) (64 * (4 * h.val + g.val) + d.val) := by
  pointwise [queries]
  unfold Par.rot
  rw [rotCol_halves _ _ _ _ _ (by omega) d.isLt]
  simp only [queryLo, queryHi, cosQ, sinQ, Nat.mul_comm n.val 128, Nat.mul_comm h.val 4]
  by_cases hd : d.val < 32
  · rw [dif_pos hd, if_pos hd]
    rfl
  · rw [dif_neg hd, if_neg hd]
    rfl

theorem ofBits_eighth : Ideal.ofBits .f32 1040187392#32 = ((1 / 8 : ℝ) : EReal) := by
  simp [Ideal.ofBits, Ideal.ieee]
  rw [← EReal.coe_mul]
  norm_num

/-- A scaled product. -/
theorem scores_apply (b : Fin 8) (n : Fin 32) (h g : Fin 4) (q : Fin 128) (k : Fin 256) :
    scores V0 (ix6 b n h g q k) = (par V0 b).dot n.val q.val (4 * h.val + g.val) k.val * ((1 / 8 : ℝ) : EReal) := by
  pointwise [scores]
  rw [ofBits_eighth]
  have e : (4 * h.val + g.val) / 4 = h.val := by omega
  simp only [bandKey_apply, query_apply, Par.dot, e]

/-- Which keys a query may see. -/
theorem mask_apply (b : Fin 8) (n : Fin 32) (h g : Fin 4) (q : Fin 128) (k : Fin 256) :
    mask V0 (ix6 b n h g q k) = if k.val ≤ q.val + 128 ∧ q.val < k.val ∧ (n.val = 0 → 128 ≤ k.val) then 1#1 else 0#1 := by
  pointwise [mask, res_main_v111, res_main_v113]
  rw [band_word, start_word]
  by_cases h1 : k.val ≤ q.val + 128 ∧ q.val < k.val
  · by_cases h2 : n.val = 0 → 128 ≤ k.val
    · rw [if_pos h1, if_pos h2, if_pos ⟨h1.1, h1.2, h2⟩]
      rfl
    · rw [if_pos h1, if_neg h2, if_neg (fun z : _ ∧ _ ∧ _ => h2 z.2.2)]
      rfl
  · rw [if_neg h1, if_neg (fun z : _ ∧ _ ∧ _ => h1 ⟨z.1, z.2.1⟩)]
    by_cases h2 : n.val = 0 → 128 ≤ k.val
    · rw [if_pos h2]
      rfl
    · rw [if_neg h2]
      rfl

/-- The scaled products of a head at a position, as a function of the key. -/
def row (b : Fin 8) (n : Fin 32) (h g : Fin 4) (q : Fin 128) (k : Fin 256) : EReal :=
  (par V0 b).dot n.val q.val (4 * h.val + g.val) k.val * ((1 / 8 : ℝ) : EReal)

/-- The masked scores. -/
theorem masked_apply (b : Fin 8) (n : Fin 32) (h g : Fin 4) (q : Fin 128) (k : Fin 256) :
    res_main_v140 V0 (ix6 b n h g q k) = maskedScore (row V0 b n h g q) (n.val = 0) q k := by
  rw [masked_eq]
  pointwise
  rw [mask_apply, scores_apply]
  unfold maskedScore
  by_cases hc : k.val ≤ q.val + 128 ∧ q.val < k.val ∧ (n.val = 0 → 128 ≤ k.val)
  · rw [if_pos hc, if_pos hc]
    rfl
  · rw [if_neg hc, if_neg hc]
    exact ofBits_negInf

/-- A row's value, spread over a unit axis; a head's, spread over batches, blocks and positions; a row's, over the keys. -/
theorem unit_apply (Y : FVec Ideal S8x32x4x4x128 .f32) (b : Fin 8) (n : Fin 32) (h g : Fin 4) (q : Fin 128) :
    broadcastInDim S8x32x4x4x128x1 ![0, 1, 2, 3, 4] bcast_S8x32x4x4x128_S8x32x4x4x128x1_0_1_2_3_4 Y (ix6 b n h g q 0) = Y (ix5 b n h g q) := by
  pointwise

theorem heads_apply (Y : FVec Ideal S1x1x4x4x1x1 .f32) (b : Fin 8) (n : Fin 32) (h g : Fin 4) (q : Fin 128) :
    broadcastInDim S8x32x4x4x128x1 ![0, 1, 2, 3, 4, 5] bcast_S1x1x4x4x1x1_S8x32x4x4x128x1_0_1_2_3_4_5 Y (ix6 b n h g q 0) = Y (ix6 0 0 h g 0 0) := by
  pointwise

theorem keys_apply (Y : FVec Ideal S8x32x4x4x128x1 .f32) (b : Fin 8) (n : Fin 32) (h g : Fin 4) (q : Fin 128) (k : Fin 256) :
    broadcastInDim S8x32x4x4x128x256 ![0, 1, 2, 3, 4, 5] bcast_S8x32x4x4x128x1_S8x32x4x4x128x256_0_1_2_3_4_5 Y (ix6 b n h g q k) = Y (ix6 b n h g q 0) := by
  pointwise

theorem max_at {s : Shape} (A B : FVec Ideal s .f32) (i : s.Idx) : maximumf A B i = max (A i) (B i) := rfl

theorem exp_at {s : Shape} (A B : FVec Ideal s .f32) (i : s.Idx) : Host.exp (subf A B) i = Ideal.exp (A i - B i) := rfl

/-- The peak of a position's scores. -/
theorem peak_apply (b : Fin 8) (n : Fin 32) (h g : Fin 4) (q : Fin 128) :
    res_main_v145 V0 (ix6 b n h g q 0) = refPeak (row V0 b n h g q) (n.val = 0) ((par V0 b).sk (4 * h.val + g.val)) q := by
  unfold res_main_v145
  rw [max_at, unit_apply, heads_apply, max_apply, sink_apply V0 b]
  simp only [masked_apply]
  rfl

theorem exp_apply (b : Fin 8) (n : Fin 32) (h g : Fin 4) (q : Fin 128) (k : Fin 256) :
    res_main_v148 V0 (ix6 b n h g q k) = refExp (row V0 b n h g q) (n.val = 0) ((par V0 b).sk (4 * h.val + g.val)) q k := by
  unfold res_main_v148
  rw [exp_at, keys_apply, masked_apply, peak_apply]
  rfl

/-- The sum of a position's exponentials with the sink's. -/
def den : FVec Ideal S8x32x4x4x128x1 .f32 :=
  addf (broadcastInDim S8x32x4x4x128x1 ![0, 1, 2, 3, 4] bcast_S8x32x4x4x128_S8x32x4x4x128x1_0_1_2_3_4 (Host.reduceAdd (res_main_v148 V0) (constant S_ .f32 0x00000000#32) reducesTo_S8x32x4x4x128x256_S8x32x4x4x128_d5 h_S_)) (Host.exp (subf (broadcastInDim S8x32x4x4x128x1 ![0, 1, 2, 3, 4, 5] bcast_S1x1x4x4x1x1_S8x32x4x4x128x1_0_1_2_3_4_5 (res_main_v141 V0)) (res_main_v145 V0)))

theorem add_at {s : Shape} (A B : FVec Ideal s .f32) (i : s.Idx) : addf A B i = A i + B i := rfl

theorem div_at {s : Shape} (A B : FVec Ideal s .f32) (i : s.Idx) : Host.divf A B i = Ideal.div (A i) (B i) := rfl

theorem den_apply (b : Fin 8) (n : Fin 32) (h g : Fin 4) (q : Fin 128) :
    den V0 (ix6 b n h g q 0) = refDen (row V0 b n h g q) (n.val = 0) ((par V0 b).sk (4 * h.val + g.val)) q := by
  unfold den
  rw [add_at, unit_apply, sum_apply, exp_at, heads_apply, sink_apply V0 b, peak_apply]
  simp only [exp_apply]
  rfl

/-- The attention's weights. -/
def weights : FVec Ideal S8x32x4x4x128x256 .f32 :=
  Host.divf (res_main_v148 V0) (broadcastInDim S8x32x4x4x128x256 ![0, 1, 2, 3, 4, 5] bcast_S8x32x4x4x128x1_S8x32x4x4x128x256_0_1_2_3_4_5 (den V0))

theorem weights_apply (b : Fin 8) (n : Fin 32) (h g : Fin 4) (q : Fin 128) (k : Fin 256) :
    weights V0 (ix6 b n h g q k) = Ideal.div (refExp (row V0 b n h g q) (n.val = 0) ((par V0 b).sk (4 * h.val + g.val)) q k)
      (refDen (row V0 b n h g q) (n.val = 0) ((par V0 b).sk (4 * h.val + g.val)) q) := by
  unfold weights
  rw [div_at, keys_apply, exp_apply, den_apply]

/-- A product of weights with values, entry by entry. -/
theorem product_apply (A : FVec Ideal S8x32x256x4x64 .f32) (B : FVec Ideal S8x32x4x4x128x256 .f32) (b : Fin 8) (n : Fin 32) (h g : Fin 4) (d : Fin 64) (q : Fin 128) :
    Host.dotGeneral dot_S8x32x256x4x64_S8x32x4x4x128x256_S8x32x4x64x4x128_2_5_4_34_013_012 none A B (ix6 b n h d g q)
      = ∑ k : Fin 256, A (ix5 b n k h d) * B (ix6 b n h g q k) := by
  pointwise

/-- The heads' outputs. -/
def heads : FVec Ideal S8x32x4x64x4x128 .f32 :=
  Host.dotGeneral dot_S8x32x256x4x64_S8x32x4x4x128x256_S8x32x4x64x4x128_2_5_4_34_013_012 none (band V0 (res_main_v95 V0)) (weights V0)

theorem head_apply (b : Fin 8) (n : Fin 32) (h g : Fin 4) (d : Fin 64) (q : Fin 128) :
    heads V0 (ix6 b n h d g q) = (par V0 b).refHead n.val q (4 * h.val + g.val) d.val := by
  unfold heads
  rw [product_apply]
  simp only [bandVal_apply, weights_apply]
  have e : (4 * h.val + g.val) / 4 = h.val := by omega
  unfold Par.refHead refAttend
  rw [e]
  rfl

/-- The heads side by side, a row for each position. -/
theorem side_apply (Y : FVec Ideal S8x32x4x64x4x128 .f32) (b : Fin 8) (s : Fin 4096) (e : Fin 1024) :
    shapeCast S8x4096x1024 (transpose S8x32x128x4x4x64 [0, 1, 5, 2, 4, 3] Y transposes_S8x32x4x64x4x128_S8x32x128x4x4x64_0_1_5_2_4_3) shapeCasts_S8x32x128x4x4x64_S8x4096x1024 (ix3 b s e)
      = Y (ix6 b ⟨s.val / 128, by omega⟩ ⟨e.val / 256, by omega⟩ ⟨e.val % 64, by omega⟩ ⟨e.val / 64 % 4, by omega⟩ ⟨s.val % 128, by omega⟩) := by
  pointwise

end Cert.ReferenceIdeal.Attn

end
-- ==== Proof.RefResult.lean ====
module

public import proofs.«01_k».proof.Proof.RefValue

/-! The reference's result at an index. -/

@[expose] public section

set_option maxRecDepth 16384

noncomputable section

namespace Cert.ReferenceIdeal.Attn

open Idealize.ShloMosaic Idealize.ShloMosaic.TcCoe Idealize.SL.Sem Cert.ReferenceIdeal Cert.ReferenceIdeal.Gen Cert.ReferenceIdeal.Value Cert.Attn

variable (V0 : Valuation τ sig (Elt Ideal))

/-- The output projection of rows `A`. -/
def project (A : FVec Ideal S8x4096x1024 .f32) (W : FVec Ideal S1x1024x1024 .f32) (B : FVec Ideal S1x1024 .f32) : FVec Ideal S8x4096x1024 .f32 :=
  addf (Host.dotGeneral dot_S8x4096x1024_S1024x1024_S8x4096x1024_2_0_01_1_n_n none A (shapeCast _ W shapeCasts_S1x1024x1024_S1024x1024)) (broadcastInDim S8x4096x1024 ![0, 1, 2] bcast_S1x1x1024_S8x4096x1024_0_1_2 (broadcastInDim S1x1x1024 ![2] bcast_S1024_S1x1x1024_2 (shapeCast _ B shapeCasts_S1x1024_S1024)))

theorem project_apply (A : FVec Ideal S8x4096x1024 .f32) (W : FVec Ideal S1x1024x1024 .f32) (B : FVec Ideal S1x1024 .f32) (b : Fin 8) (s : Fin 4096) (i : Fin 1024) :
    project A W B (ix3 b s i) = ∑ e : Fin 1024, A (ix3 b s e) * W (ix3 0 e i) + B (ix2 0 i) := by
  pointwise [project]

/-- The heads' outputs side by side. -/
def side : FVec Ideal S8x4096x1024 .f32 :=
  shapeCast S8x4096x1024 (transpose S8x32x128x4x4x64 [0, 1, 5, 2, 4, 3] (heads V0) transposes_S8x32x4x64x4x128_S8x32x128x4x4x64_0_1_5_2_4_3) shapeCasts_S8x32x128x4x4x64_S8x4096x1024

theorem side_par (b : Fin 8) (s : Fin 4096) (e : Fin 1024) : side V0 (ix3 b s e) = (par V0 b).oRef s.val e.val := by
  unfold side
  rw [side_apply, head_apply]
  have e1 : 4 * (e.val / 256) + e.val / 64 % 4 = e.val / 64 := by omega
  unfold Par.oRef
  dsimp only
  rw [e1]

theorem project_eq : res_main_v163 V0 = project (side V0) (V0 (Proc.devRef .tc main_arg6)) (V0 (Proc.devRef .tc main_arg7)) := rfl

theorem projected_apply (b : Fin 8) (s : Fin 4096) (i : Fin 1024) :
    res_main_v163 V0 (ix3 b s i) = (par V0 b).outProj (par V0 b).oRef s.val i.val := by
  rw [project_eq, project_apply]
  unfold Par.outProj
  simp only [side_par, par_wo, par_bo]

/-- A row normalised, scaled and added to the input. -/
def closing (X U : FVec Ideal S8x4096x1024 .f32) (G : FVec Ideal S2x1024 .f32) : FVec Ideal S8x4096x1024 .f32 :=
  addf X (mulf (mulf U (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf U U) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] G slices_S2x1024_S1x1024_0_0) shapeCasts_S1x1024_S1024))))

theorem closing_apply (X U : FVec Ideal S8x4096x1024 .f32) (G : FVec Ideal S2x1024 .f32) (b : Fin 8) (s : Fin 4096) (i : Fin 1024) :
    closing X U G (ix3 b s i) = X (ix3 b s i) + U (ix3 b s i) * Ideal.rsqrt (Ideal.div (∑ e : Fin 1024, U (ix3 b s e) * U (ix3 b s e)) (Ideal.ofBits .f32 1149239296#32) + Ideal.ofBits .f32 897988541#32) * G (ix2 0 i) := by
  pointwise [closing]

/-- The reference's result at an index. -/
theorem result_apply (b : Fin 8) (s : Fin 4096) (i : Fin 1024) :
    closing (V0 (Proc.devRef .tc main_arg0)) (res_main_v163 V0) (V0 (Proc.devRef .tc main_arg2)) (ix3 b s i) = (par V0 b).res (par V0 b).oRef s.val i.val := by
  rw [closing_apply]
  simp only [projected_apply]
  unfold Par.res Cert.Attn.norm
  rw [par_x, par_gp]

/-- The reference's result as an array. -/
theorem result_eq : closing (V0 (Proc.devRef .tc main_arg0)) (res_main_v163 V0) (V0 (Proc.devRef .tc main_arg2))
    = fun i : S8x4096x1024.Idx => (par V0 (i 0)).res (par V0 (i 0)).oRef (i 1).val (i 2).val := by
  funext i
  obtain ⟨b, s, e, rfl⟩ : ∃ b s e, i = ix3 b s e := ⟨i 0, i 1, i 2, ValueIdx.eq_ix3 i⟩
  exact result_apply V0 b s e

end Cert.ReferenceIdeal.Attn

end
-- ==== Proof.Pre.lean ====
module

public import proofs.«01_k».proof.Proof.Gen.Pre_finite
public import Idealize.ShloMosaic.Lib.ReduceAll
public import Idealize.ShloMosaic.Lib.Pointwise
public import Idealize.ShloMosaic.Lib.KernelVsHost

/-! What the precondition says of the arguments: the first gain, the query and key columns of the projection with their
    biases, and the sinks are finite. -/

@[expose] public section

set_option maxRecDepth 16384

noncomputable section

namespace Cert.Pre_finite.Attn

open Idealize.ShloMosaic Cert.Pre_finite Cert.Pre_finite.Gen

theorem real_of_lt (x : Ideal .f32)
    (h : FloatOps.cmpf .olt (FloatOps.hostAbsf x) (FloatOps.ofBits (F := Ideal) .f32 0x7F800000#32) = 1#1) : ∃ r : ℝ, (x : EReal) = r := by
  rw [← Ideal.xori_weird_eq_hostAbsf_olt_inf] at h
  have hx : ¬ ((x : EReal) = ⊤ ∨ (x : EReal) = ⊥) := fun hx => by
    have e : FloatOps.weird x = BitVec.ofBool (decide ((x : EReal) = ⊤ ∨ (x : EReal) = ⊥)) := rfl
    rw [e, decide_eq_true hx] at h
    exact absurd h (by decide)
  rw [not_or] at hx
  exact ⟨EReal.toReal x, (EReal.coe_toReal hx.1 hx.2).symm⟩

theorem of_and {x y : BitVec 1} (h : IntOp.andi x y = 1#1) : x = 1#1 ∧ y = 1#1 := by
  revert x y
  decide

theorem finite {a0 : FVec Ideal S8x4096x1024 .f32} {a1 a2 : FVec Ideal S2x1024 .f32} {a3 : FVec Ideal S1x1024x1536 .f32} {a4 : FVec Ideal S1x1536 .f32}
    {a5 : FVec Ideal S1x16 .f32} {a6 : FVec Ideal S1x1024x1024 .f32} {a7 : FVec Ideal S1x1024 .f32}
    (h : fn a0 a1 a2 a3 a4 a5 a6 a7 = fun _ => 1#1) :
    (∀ e : Fin 1024, ∃ r : ℝ, a1 (ix2 0 e) = r)
      ∧ (∀ (e : Fin 1024) (i : Fin 1536), i.val < 1280 → ∃ r : ℝ, a3 (ix3 0 e i) = r)
      ∧ (∀ i : Fin 1536, i.val < 1280 → ∃ r : ℝ, a4 (ix2 0 i) = r)
      ∧ (∀ k : Fin 16, ∃ r : ℝ, a5 (ix2 0 k) = r) := by
  have h0 := congrFun h ix0
  dsimp only [fn, fn_part1] at h0
  obtain ⟨h1, hd⟩ := of_and h0
  obtain ⟨h2, hc⟩ := of_and h1
  obtain ⟨ha, hb⟩ := of_and h2
  have : Subsingleton S_.Idx := ⟨fun i j => funext fun a => a.elim0⟩
  refine ⟨fun e => ?_, fun e i hi => ?_, fun i hi => ?_, fun k => ?_⟩
  · have z := Host.reduce_andi_all _ _ _ _ _ ha (ix1 e)
    apply real_of_lt
    rw [← z]
    symm
    pointwise
  · have z := Host.reduce_andi_all _ _ _ _ _ hb (ix2 e ⟨i.val, hi⟩)
    apply real_of_lt
    rw [← z]
    symm
    pointwise
  · have z := Host.reduce_andi_all _ _ _ _ _ hc (ix1 ⟨i.val, hi⟩)
    apply real_of_lt
    rw [← z]
    symm
    pointwise
  · have z := Host.reduce_andi_all _ _ _ _ _ hd (ix1 k)
    apply real_of_lt
    rw [← z]
    symm
    pointwise

end Cert.Pre_finite.Attn

end
-- ==== Proof.Attention.lean ====
module

public import proofs.«01_k».proof.Defs
public import proofs.«01_k».proof.Proof.Array
public import proofs.«01_k».proof.Proof.RefResult
public import proofs.«01_k».proof.Proof.Pre

/-! The attention call: kernel and reference agree on extended reals. -/

@[expose] public section

set_option maxRecDepth 16384

noncomputable section

namespace Cert.Proof

open Idealize.ShloMosaic Idealize.ShloMosaic.StableHlo Idealize.SL.Sem Cert.Attn

/-- The arrays of a sequence, read from the kernel's memory and from the reference's, are the same. -/
theorem par_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (b : Fin 8) : Cert.ReferenceIdeal.Attn.par (launchContents m' c) b = Cert.KernelIdeal.Attn.par m c b := by
  show Par.of (fun s e => m' ((c.tc : Thread Cert.ReferenceIdeal.nD Cert.ReferenceIdeal.τ).loc Cert.ReferenceIdeal.main_arg0) (ix3 b s e))
      (fun e => m' ((c.tc : Thread Cert.ReferenceIdeal.nD Cert.ReferenceIdeal.τ).loc Cert.ReferenceIdeal.main_arg1) (ix2 0 e))
      (fun e => m' ((c.tc : Thread Cert.ReferenceIdeal.nD Cert.ReferenceIdeal.τ).loc Cert.ReferenceIdeal.main_arg2) (ix2 0 e))
      (fun e i => m' ((c.tc : Thread Cert.ReferenceIdeal.nD Cert.ReferenceIdeal.τ).loc Cert.ReferenceIdeal.main_arg3) (ix3 0 e i))
      (fun i => m' ((c.tc : Thread Cert.ReferenceIdeal.nD Cert.ReferenceIdeal.τ).loc Cert.ReferenceIdeal.main_arg4) (ix2 0 i))
      (fun h => m' ((c.tc : Thread Cert.ReferenceIdeal.nD Cert.ReferenceIdeal.τ).loc Cert.ReferenceIdeal.main_arg5) (ix2 0 h))
      (fun e i => m' ((c.tc : Thread Cert.ReferenceIdeal.nD Cert.ReferenceIdeal.τ).loc Cert.ReferenceIdeal.main_arg6) (ix3 0 e i))
      (fun i => m' ((c.tc : Thread Cert.ReferenceIdeal.nD Cert.ReferenceIdeal.τ).loc Cert.ReferenceIdeal.main_arg7) (ix2 0 i)) = _
  rw [h0, h1, h2, h3, h4, h5, h6, h7]
  rfl

/-- On extended reals the attention kernel and its reference end with equal results and unchanged arguments, when the
    precondition's arrays are finite. -/
theorem attention : Cert.algebraic_KernelIdeal_ReferenceIdeal_pre_finite := by
  intro m g m' g' hpre hargs
  refine ⟨fun c => fun i : Cert.KernelIdeal.S8x4096x1024.Idx => (Cert.KernelIdeal.Attn.par m c (i 0)).res (Cert.KernelIdeal.Attn.par m c (i 0)).oKer (i 1).val (i 2).val, ?_, ?_⟩
  · refine (θ_run _ _ _).mono (fun r h c => ⟨(h c).1.trans (Cert.KernelIdeal.Attn.arr_eq m c), (h c).2⟩) (Cert.KernelIdeal.Value.run_blocks m g)
  · refine (θ_run _ _ _).mono (fun r h c => ⟨(h c).1.trans ?_, (h c).2⟩) (Cert.ReferenceIdeal.Value.run m' g')
    refine (Cert.ReferenceIdeal.Attn.result_eq (launchContents m' c)).trans ?_
    obtain ⟨h0, h1, h2, h3, h4, h5, h6, h7⟩ := hargs c
    obtain ⟨hg, hw, hb, hk⟩ := Cert.Pre_finite.Attn.finite (hpre c)
    funext i
    refine (congrArg (fun p : Par => p.res p.oRef (i 1).val (i 2).val) (par_eq m m' c h0 h1 h2 h3 h4 h5 h6 h7 (i 0))).trans ?_
    exact (Par.res_eq (Par.of_finite hg hw hb hk) (i 1).val (i 2).val (i 1).isLt).symm

end Cert.Proof

end
-- ==== Proof.FfnSpec.lean ====
module

public import Idealize.ShloMosaic.PureOps.Ideal

/-! What the feed-forward block computes for one row, on extended reals. -/

@[expose] public section

noncomputable section

namespace Cert.Ffn

open Idealize.ShloMosaic

/-- A row scaled by the root of its mean square plus epsilon, times a gain. -/
def rms (u g : Fin 1024 → EReal) (e : Fin 1024) : EReal :=
  u e * Ideal.rsqrt (Ideal.div (∑ i : Fin 1024, u i * u i) (Ideal.ofBits .f32 1149239296#32) + Ideal.ofBits .f32 897988541#32) * g e

/-- The gate and up projections of a row. -/
def gateUp (h : Fin 1024 → EReal) (w : Fin 1024 → Fin 5632 → EReal) (j : Fin 5632) : EReal := ∑ e : Fin 1024, h e * w e j

/-- The gated hidden row: the gate times its logistic, times the up half. -/
def hidden (z : Fin 5632 → EReal) (k : Fin 2816) : EReal :=
  z ⟨k.val, by omega⟩ * Ideal.logistic (z ⟨k.val, by omega⟩) * z ⟨2816 + k.val, by omega⟩

/-- The down projection of a hidden row. -/
def down (v : Fin 2816 → EReal) (w : Fin 2816 → Fin 1024 → EReal) (i : Fin 1024) : EReal := ∑ k : Fin 2816, v k * w k i

/-- The block's result: the row plus the scaled down projection. -/
def row (x g gp : Fin 1024 → EReal) (w : Fin 1024 → Fin 5632 → EReal) (wd : Fin 2816 → Fin 1024 → EReal) (i : Fin 1024) : EReal :=
  x i + rms (down (hidden (gateUp (rms x g) w)) wd) gp i

theorem row_congr {x x' g g' gp gp' : Fin 1024 → EReal} {w w' : Fin 1024 → Fin 5632 → EReal} {wd wd' : Fin 2816 → Fin 1024 → EReal} {i i' : Fin 1024}
    (hx : ∀ e, x e = x' e) (hg : ∀ e, g e = g' e) (hgp : ∀ e, gp e = gp' e) (hw : ∀ e j, w e j = w' e j) (hwd : ∀ k i, wd k i = wd' k i)
    (hi : i = i') : row x g gp w wd i = row x' g' gp' w' wd' i' := by
  obtain rfl := funext hx
  obtain rfl := funext hg
  obtain rfl := funext hgp
  obtain rfl : w = w' := funext fun e => funext (hw e)
  obtain rfl : wd = wd' := funext fun k => funext (hwd k)
  rw [hi]

end Cert.Ffn

end
-- ==== Proof.FfnTile.lean ====
module

public import proofs.«01_k».proof.Proof.Gen.Kernel2Ideal.Value
public import proofs.«01_k».proof.Proof.FfnSpec
public import Idealize.ShloMosaic.Lib.Pointwise
public import Idealize.ShloMosaic.Lib.Claim
public import Idealize.ShloMosaic.Lib.Pipeline.ValueKit

/-! The feed-forward kernel's grid point: each of its four sub-tiles of rows is one and the same function of its rows,
    and that function read at an index. -/

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- A sub-tile's result from the two gains, the two weights and its rows. -/
def sub (G GP : Vec Ideal S1x1024 .f32) (W : Vec Ideal S1024x5632 .bf16) (WD : Vec Ideal S2816x1024 .bf16) (X : Vec Ideal S256x1024 .f32) : FVec Ideal S256x1024 .f32 :=
  k0_pay13 (k0_pay3 GP) (k0_pay8 (k0_pay5 G X W)) WD X

theorem gate_apply (G : Vec Ideal S1x1024 .f32) (X : Vec Ideal S256x1024 .f32) (W : Vec Ideal S1024x5632 .bf16) (r : Fin 256) (j : Fin 5632) :
    k0_pay5 G X W (ix2 r j) = Cert.Ffn.gateUp (Cert.Ffn.rms (fun e => X (ix2 r e)) (fun e => G (ix2 0 e))) (fun e j => W (ix2 e j)) j := by
  pointwise [k0_pay5, k0_pay2]
  rfl

theorem hidden_apply (Z : FVec Ideal S256x5632 .f32) (r : Fin 256) (k : Fin 2816) :
    k0_pay8 Z (ix2 r k) = Cert.Ffn.hidden (fun j => Z (ix2 r j)) k := by
  pointwise [k0_pay8]
  rfl

theorem close_apply (GP : FVec Ideal S1x1024 .f32) (H : FVec Ideal S256x2816 .bf16) (WD : Vec Ideal S2816x1024 .bf16) (X : Vec Ideal S256x1024 .f32) (r : Fin 256) (i : Fin 1024) :
    k0_pay13 GP H WD X (ix2 r i) = X (ix2 r i) + Cert.Ffn.rms (Cert.Ffn.down (fun k => H (ix2 r k)) (fun k i => WD (ix2 k i))) (fun e => GP (ix2 0 e)) i := by
  pointwise [k0_pay13]
  rfl

theorem gain_apply (GP : Vec Ideal S1x1024 .f32) (i : Fin 1024) : k0_pay3 GP (ix2 0 i) = GP (ix2 0 i) := by
  pointwise [k0_pay3]

/-- A sub-tile's result at an index is the block's result for that row. -/
theorem sub_apply (G GP : Vec Ideal S1x1024 .f32) (W : Vec Ideal S1024x5632 .bf16) (WD : Vec Ideal S2816x1024 .bf16) (X : Vec Ideal S256x1024 .f32) (r : Fin 256) (i : Fin 1024) :
    sub G GP W WD X (ix2 r i) = Cert.Ffn.row (fun e => X (ix2 r e)) (fun e => G (ix2 0 e)) (fun e => GP (ix2 0 e)) (fun e j => W (ix2 e j)) (fun k i => WD (ix2 k i)) i := by
  unfold sub
  rw [close_apply]
  simp only [hidden_apply, gate_apply, gain_apply]
  rfl

variable (x0 : Vec Ideal S1024x1024 .f32) (x1 x2 : Vec Ideal S1x1024 .f32) (x3 : Vec Ideal S1024x5632 .bf16) (x4 : Vec Ideal S2816x1024 .bf16)

/-- The four stores of a point, each the sub-tile function of its rows. -/
theorem out_eq : out0_5 x0 x1 x2 x3 x4 = View.canon [
    ⟨r0_5, sub (View.ld x1 r0_0) (View.ld x2 r0_0) (View.ld x3 r0_3) (View.ld x4 r0_6) (View.ld x0 r0_5)⟩,
    ⟨r0_4, sub (View.ld x1 r0_0) (View.ld x2 r0_0) (View.ld x3 r0_3) (View.ld x4 r0_6) (View.ld x0 r0_4)⟩,
    ⟨r0_2, sub (View.ld x1 r0_0) (View.ld x2 r0_0) (View.ld x3 r0_3) (View.ld x4 r0_6) (View.ld x0 r0_2)⟩,
    ⟨r0_1, sub (View.ld x1 r0_0) (View.ld x2 r0_0) (View.ld x3 r0_3) (View.ld x4 r0_6) (View.ld x0 r0_1)⟩] := rfl

/-- A point's result at an index is the block's result for that row. -/
theorem out_apply (r i : Fin 1024) : out0_5 x0 x1 x2 x3 x4 (ix2 r i)
    = Cert.Ffn.row (fun e => x0 (ix2 r e)) (fun e => x1 (ix2 0 e)) (fun e => x2 (ix2 0 e)) (fun e j => x3 (ix2 e j)) (fun k i => x4 (ix2 k i)) i := by
  have l1 : ∀ (x : Vec Ideal S1x1024 .f32) (e : Fin 1024), View.ld x r0_0 (ix2 0 e) = x (ix2 0 e) := fun x e => by
    show x _ = x _
    congr 1
    funext a
    fin_cases a <;> exact Fin.ext (by show 0 + 1 * _ = _; omega)
  have l3 : ∀ (e : Fin 1024) (j : Fin 5632), View.ld x3 r0_3 (ix2 e j) = x3 (ix2 e j) := fun e j => by
    show x3 _ = x3 _
    congr 1
    funext a
    fin_cases a <;> exact Fin.ext (by show 0 + 1 * _ = _; omega)
  have l4 : ∀ (k : Fin 2816) (j : Fin 1024), View.ld x4 r0_6 (ix2 k j) = x4 (ix2 k j) := fun k j => by
    show x4 _ = x4 _
    congr 1
    funext a
    fin_cases a <;> exact Fin.ext (by show 0 + 1 * _ = _; omega)
  rw [out_eq]
  refine View.canon_apply_of_pieces (Val := Elt Ideal) (S := S1024x1024) (e := .f32) (fun y : S1024x1024.Idx => Cert.Ffn.row (fun e => x0 (ix2 (y 0) e)) (fun e => x1 (ix2 0 e)) (fun e => x2 (ix2 0 e)) (fun e j => x3 (ix2 e j)) (fun k i => x4 (ix2 k i)) (y 1)) _ ?_ (ix2 r i) (cover0_5 _ _ _ _ _)
  have key : ∀ (o : ℕ) (inb : ∀ a, (![o, 0] : Fin 2 → ℕ) a + S256x1024.size a ≤ S1024x1024.size a) (x : S256x1024.Idx),
      sub (View.ld x1 r0_0) (View.ld x2 r0_0) (View.ld x3 r0_3) (View.ld x4 r0_6) (View.ld x0 (Rect.unit (s := S1024x1024) ![o, 0] S256x1024.size inb)) x
        = (fun y : S1024x1024.Idx => Cert.Ffn.row (fun e => x0 (ix2 (y 0) e)) (fun e => x1 (ix2 0 e)) (fun e => x2 (ix2 0 e)) (fun e j => x3 (ix2 e j)) (fun k i => x4 (ix2 k i)) (y 1))
          ((Rect.unit (s := S1024x1024) ![o, 0] S256x1024.size inb).emb x) := fun o inb x => by
    obtain ⟨q, i, rfl⟩ : ∃ (q : Fin 256) (i : Fin 1024), x = ix2 q i := ⟨x 0, x 1, by funext a; fin_cases a <;> rfl⟩
    have e1 : ((Rect.unit (s := S1024x1024) ![o, 0] S256x1024.size inb).emb (ix2 q i) : S1024x1024.Idx) 1 = i := Fin.ext (by show 0 + 1 * i.val = i.val; omega)
    have e2 : ∀ e : Fin 1024, View.ld x0 (Rect.unit (s := S1024x1024) ![o, 0] S256x1024.size inb) (ix2 q e)
        = x0 (ix2 (((Rect.unit (s := S1024x1024) ![o, 0] S256x1024.size inb).emb (ix2 q i) : S1024x1024.Idx) 0) e) := fun e => by
      show x0 _ = x0 _
      congr 1
      funext a
      fin_cases a
      · rfl
      · exact Fin.ext (by show 0 + 1 * e.val = e.val; omega)
    exact (sub_apply _ _ _ _ _ q i).trans (Cert.Ffn.row_congr e2 (l1 x1) (l1 x2) l3 l4 e1.symm)
  intro p hp
  simp only [List.mem_cons, List.not_mem_nil, or_false] at hp
  rcases hp with rfl | rfl | rfl | rfl
  exacts [key _ _, key _ _, key _ _, key _ _]

end Cert.Kernel2Ideal.Ffn

end
-- ==== Proof.FfnArray.lean ====
module

public import proofs.«01_k».proof.Proof.FfnTile

/-! The feed-forward kernel's result array. -/

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-! ## The host's arrays at an index -/

theorem host_x (r : Fin 32768) (e : Fin 1024) : V m c main_v0 (ix2 r e) = m (c, Proc.tc.devRef main_arg0) (ix3 ⟨r.val / 4096, by omega⟩ ⟨r.val % 4096, by omega⟩ e) := by entry_read; pointwise
theorem host_g (e : Fin 1024) : V m c main_v3 (ix2 0 e) = m (c, Proc.tc.devRef main_arg1) (ix2 1 e) := by entry_read; pointwise
theorem host_gp (e : Fin 1024) : V m c main_v6 (ix2 0 e) = m (c, Proc.tc.devRef main_arg2) (ix2 1 e) := by entry_read; pointwise
theorem host_w (e : Fin 1024) (j : Fin 5632) : V m c main_v9 (ix2 e j) = m (c, Proc.tc.devRef main_arg3) (ix3 1 e j) := by entry_read; pointwise
theorem host_wd (k : Fin 2816) (i : Fin 1024) : V m c main_v12 (ix2 k i) = m (c, Proc.tc.devRef main_arg4) (ix3 1 k i) := by entry_read; pointwise

/-! ## The blocks of a grid point -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

theorem lt_32 (t : Fin cfg0.N) : t.val < 32 := lt_of_lt_of_eq t.isLt (show cfg0.N = 32 from N_0)

theorem blk0 (t : Fin cfg0.N) (r e : Fin 1024) : iblk m c 0 t (ix2 r e)
    = V m c main_v0 (ix2 ⟨1024 * t.val + r.val, by have := lt_32 t; omega⟩ e) := by blk_ext [iblk, idx0 t]
theorem blk1 (t : Fin cfg0.N) (e : Fin 1024) : iblk m c 1 t (ix2 0 e) = V m c main_v3 (ix2 0 e) := by blk_ext [iblk, idx1 t]
theorem blk2 (t : Fin cfg0.N) (e : Fin 1024) : iblk m c 2 t (ix2 0 e) = V m c main_v6 (ix2 0 e) := by blk_ext [iblk, idx2 t]
theorem blk3 (t : Fin cfg0.N) (e : Fin 1024) (j : Fin 5632) : iblk m c 3 t (ix2 e j) = V m c main_v9 (ix2 e j) := by blk_ext [iblk, idx3 t]
theorem blk4 (t : Fin cfg0.N) (k : Fin 2816) (i : Fin 1024) : iblk m c 4 t (ix2 k i) = V m c main_v12 (ix2 k i) := by blk_ext [iblk, idx4 t]

/-- The layer's result at row `r`, column `i`, out of the program's arguments. -/
def res (r : Fin 32768) (i : Fin 1024) : EReal :=
  Cert.Ffn.row (fun e => m (c, Proc.tc.devRef main_arg0) (ix3 ⟨r.val / 4096, by omega⟩ ⟨r.val % 4096, by omega⟩ e))
    (fun e => m (c, Proc.tc.devRef main_arg1) (ix2 1 e)) (fun e => m (c, Proc.tc.devRef main_arg2) (ix2 1 e))
    (fun e j => m (c, Proc.tc.devRef main_arg3) (ix3 1 e j)) (fun k i => m (c, Proc.tc.devRef main_arg4) (ix3 1 k i)) i

theorem point (t : Fin cfg0.N) (r i : Fin 1024) : out0_5 (iblk m c 0 t) (iblk m c 1 t) (iblk m c 2 t) (iblk m c 3 t) (iblk m c 4 t) (ix2 r i)
    = res m c ⟨1024 * t.val + r.val, by have := lt_32 t; omega⟩ i := by
  exact (out_apply _ _ _ _ _ r i).trans (Cert.Ffn.row_congr (fun e => (blk0 m c t r e).trans (host_x m c _ e)) (fun e => (blk1 m c t e).trans (host_g m c e))
    (fun e => (blk2 m c t e).trans (host_gp m c e)) (fun e j => (blk3 m c t e j).trans (host_w m c e j)) (fun k i => (blk4 m c t k i).trans (host_wd m c k i)) rfl)

/-- The result array of the kernel is the block's result, every row. -/
theorem arr_eq : (dats m 0 c).arrAt 5 cfg0.N = fun i : S32768x1024.Idx => res m c (i 0) (i 1) := by
  refine (dats m 0 c).arrAt_eq_of_covers 5 _ (by decide +kernel) fun t hf y => ?_
  blk_simp
  rw [after0_5]
  obtain ⟨r, e, rfl⟩ : ∃ (r e : Fin 1024), y = ix2 r e := ⟨y 0, y 1, by funext a; fin_cases a <;> rfl⟩
  refine (point m c t r e).trans ?_
  have e0 : (((cfg0.win 5).blk t).view.emb (ix2 r e) : S32768x1024.Idx) 0 = (⟨1024 * t.val + r.val, by have := lt_32 t; omega⟩ : Fin 32768) :=
    Fin.ext (by blk_simp [idx5 t]; exact congrArg (· + r.val) (Nat.mul_comm _ _))
  have e1 : (((cfg0.win 5).blk t).view.emb (ix2 r e) : S32768x1024.Idx) 1 = e :=
    Fin.ext (by blk_simp [idx5 t]; try omega)
  dsimp only
  rw [e0, e1]

end Cert.Kernel2Ideal.Ffn

end
-- ==== Proof.FfnRef.lean ====
module

public import proofs.«01_k».proof.Proof.Gen.Reference2Ideal.Run
public import proofs.«01_k».proof.Proof.FfnSpec
public import Idealize.ShloMosaic.Lib.Pointwise
public import Idealize.ShloMosaic.Lib.Claim
public import Idealize.ShloMosaic.Lib.Pipeline.ValueKit

/-! The feed-forward reference's result at an index. -/

@[expose] public section

set_option maxRecDepth 16384

noncomputable section

namespace Cert.Reference2Ideal.Ffn

open Idealize.ShloMosaic Idealize.ShloMosaic.TcCoe Idealize.SL.Sem Cert.Reference2Ideal Cert.Reference2Ideal.Gen Cert.Reference2Ideal.Value

/-- Rows normalised and scaled by the second of two gains. -/
def normal (U : FVec Ideal S8x4096x1024 .f32) (G : FVec Ideal S2x1024 .f32) : FVec Ideal S8x4096x1024 .f32 :=
  mulf (mulf U (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf U U) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![1, 0] G slices_S2x1024_S1x1024_1_0) shapeCasts_S1x1024_S1024)))

theorem normal_apply (U : FVec Ideal S8x4096x1024 .f32) (G : FVec Ideal S2x1024 .f32) (b : Fin 8) (s : Fin 4096) (i : Fin 1024) :
    normal U G (ix3 b s i) = Cert.Ffn.rms (fun e => U (ix3 b s e)) (fun e => G (ix2 1 e)) i := by
  pointwise [normal]
  rfl

/-- The gate and up projections of rows. -/
def projected (H : FVec Ideal S8x4096x1024 .f32) (W : FVec Ideal S2x1024x5632 .f32) : FVec Ideal S8x4096x5632 .f32 :=
  Host.dotGeneral dot_S8x4096x1024_S1024x5632_S8x4096x5632_2_0_01_1_n_n none H (shapeCast _ (extractStridedSlice S1x1024x5632 ![1, 0, 0] W slices_S2x1024x5632_S1x1024x5632_1_0_0) shapeCasts_S1x1024x5632_S1024x5632)

theorem projected_apply (H : FVec Ideal S8x4096x1024 .f32) (W : FVec Ideal S2x1024x5632 .f32) (b : Fin 8) (s : Fin 4096) (j : Fin 5632) :
    projected H W (ix3 b s j) = Cert.Ffn.gateUp (fun e => H (ix3 b s e)) (fun e j => W (ix3 1 e j)) j := by
  pointwise [projected]
  rfl

/-- The gated hidden rows. -/
def gated (Z : FVec Ideal S8x4096x5632 .f32) : FVec Ideal S8x4096x2816 .f32 :=
  mulf (mulf (extractStridedSlice S8x4096x2816 ![0, 0, 0] Z slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] Z slices_S8x4096x5632_S8x4096x2816_0_0_0)))))) (extractStridedSlice S8x4096x2816 ![0, 0, 2816] Z slices_S8x4096x5632_S8x4096x2816_0_0_2816)

theorem gated_apply (Z : FVec Ideal S8x4096x5632 .f32) (b : Fin 8) (s : Fin 4096) (k : Fin 2816) :
    gated Z (ix3 b s k) = Cert.Ffn.hidden (fun j => Z (ix3 b s j)) k := by
  pointwise [gated]
  rfl

/-- The down projection of hidden rows. -/
def lowered (H : FVec Ideal S8x4096x2816 .f32) (W : FVec Ideal S2x2816x1024 .f32) : FVec Ideal S8x4096x1024 .f32 :=
  Host.dotGeneral dot_S8x4096x2816_S2816x1024_S8x4096x1024_2_0_01_1_n_n none H (shapeCast _ (extractStridedSlice S1x2816x1024 ![1, 0, 0] W slices_S2x2816x1024_S1x2816x1024_1_0_0) shapeCasts_S1x2816x1024_S2816x1024)

theorem lowered_apply (H : FVec Ideal S8x4096x2816 .f32) (W : FVec Ideal S2x2816x1024 .f32) (b : Fin 8) (s : Fin 4096) (i : Fin 1024) :
    lowered H W (ix3 b s i) = Cert.Ffn.down (fun k => H (ix3 b s k)) (fun k i => W (ix3 1 k i)) i := by
  pointwise [lowered]
  rfl

/-- The result, its two leading axes flattened. -/
def flat (X Y : FVec Ideal S8x4096x1024 .f32) : FVec Ideal S32768x1024 .f32 :=
  shapeCast _ (addf X Y) shapeCasts_S8x4096x1024_S32768x1024

theorem flat_apply (X Y : FVec Ideal S8x4096x1024 .f32) (r : Fin 32768) (i : Fin 1024) :
    flat X Y (ix2 r i) = X (ix3 ⟨r.val / 4096, by omega⟩ ⟨r.val % 4096, by omega⟩ i) + Y (ix3 ⟨r.val / 4096, by omega⟩ ⟨r.val % 4096, by omega⟩ i) := by
  pointwise [flat]

variable (m : (ℓ : Loc nD τ sig) → Buf (Elt Ideal) ℓ) (c : Dev nD)

/-- The reference's result is made of these parts. -/
theorem result_parts : res_main_v41 m c = flat (m ((c.tc : Thread nD τ).loc main_arg0))
    (normal (lowered (gated (projected (normal (m ((c.tc : Thread nD τ).loc main_arg0)) (m ((c.tc : Thread nD τ).loc main_arg1))) (m ((c.tc : Thread nD τ).loc main_arg3))))
      (m ((c.tc : Thread nD τ).loc main_arg4))) (m ((c.tc : Thread nD τ).loc main_arg2))) := rfl

/-- The reference's result at an index is the block's result for that row. -/
theorem result_apply (r : Fin 32768) (i : Fin 1024) : res_main_v41 m c (ix2 r i)
    = Cert.Ffn.row (fun e => m ((c.tc : Thread nD τ).loc main_arg0) (ix3 ⟨r.val / 4096, by omega⟩ ⟨r.val % 4096, by omega⟩ e))
      (fun e => m ((c.tc : Thread nD τ).loc main_arg1) (ix2 1 e)) (fun e => m ((c.tc : Thread nD τ).loc main_arg2) (ix2 1 e))
      (fun e j => m ((c.tc : Thread nD τ).loc main_arg3) (ix3 1 e j)) (fun k i => m ((c.tc : Thread nD τ).loc main_arg4) (ix3 1 k i)) i := by
  rw [result_parts, flat_apply, normal_apply]
  simp only [lowered_apply, gated_apply, projected_apply, normal_apply]
  rfl

end Cert.Reference2Ideal.Ffn

end
-- ==== Proof.FeedForward.lean ====
module

public import proofs.«01_k».proof.Defs
public import proofs.«01_k».proof.Proof.FfnArray
public import proofs.«01_k».proof.Proof.FfnRef

/-! The feed-forward call: kernel and reference agree on extended reals. -/

@[expose] public section

set_option maxRecDepth 16384

noncomputable section

namespace Cert.Proof

open Idealize.ShloMosaic Idealize.ShloMosaic.StableHlo Idealize.SL.Sem

/-- On extended reals the feed-forward kernel and its reference end with equal results and unchanged arguments, whatever
    the arguments. -/
theorem feedForward : Cert.algebraic_Kernel2Ideal_Reference2Ideal := by
  intro m g m' g' hpre hargs
  refine ⟨fun c => fun i : Cert.Kernel2Ideal.S32768x1024.Idx => Cert.Kernel2Ideal.Ffn.res m c (i 0) (i 1), ?_, ?_⟩
  · exact (θ_run _ _ _).mono (fun r h c => ⟨(h c).1.trans (Cert.Kernel2Ideal.Ffn.arr_eq m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2, h3, h4⟩ := hargs c
    funext i
    obtain ⟨r, e, rfl⟩ : ∃ (r : Fin 32768) (e : Fin 1024), i = ix2 r e := ⟨i 0, i 1, by funext a; fin_cases a <;> rfl⟩
    refine (Cert.Reference2Ideal.Ffn.result_apply m' c r e).trans ?_
    rw [h0, h1, h2, h3, h4]
    rfl

end Cert.Proof

end
-- ==== Proof.SguSpec.lean ====
module

public import proofs.«01_k».proof.Proof.FfnSpec

/-! What the spatial gating block computes for one row of a chunk of 128, on extended reals. -/

@[expose] public section

noncomputable section

namespace Cert.Sgu

open Idealize.ShloMosaic

/-- The factor of the cubic term, the product of the two words of the gelu. -/
def cubic : EReal := ((80338380498831 * 2251799813685248⁻¹ : ℝ) : EReal)

/-- The gelu, its cubic written with one factor. -/
def gelu (x : EReal) : EReal :=
  x * (Ideal.ofBits .f32 1056964608#32 + Ideal.ofBits .f32 1056964608#32
    * Ideal.tanh (x * (Ideal.ofBits .f32 1061962282#32 + cubic * (x * x))))

/-- A row less its mean. -/
def centred (v : Fin 1024 → EReal) (e : Fin 1024) : EReal := v e - Ideal.div (∑ i : Fin 1024, v i) (Ideal.ofBits .f32 1149239296#32)

/-- A row normalised to mean zero and variance one, times a gain, plus an offset. -/
def layer (v g b : Fin 1024 → EReal) (e : Fin 1024) : EReal :=
  centred v e * Ideal.rsqrt (Ideal.div (∑ i : Fin 1024, centred v i * centred v i) (Ideal.ofBits .f32 1149239296#32) + Ideal.ofBits .f32 897988541#32) * g e + b e

/-- The block's weights: the two gains, the input projection, the layer norm's gain and offset, the mixing matrices and
    offsets of the eight groups, and the output projection. -/
@[ext] structure Par where
  g : Fin 1024 → EReal
  gp : Fin 1024 → EReal
  w : Fin 1024 → Fin 2048 → EReal
  lg : Fin 1024 → EReal
  lb : Fin 1024 → EReal
  ws : Fin 8 → Fin 128 → Fin 128 → EReal
  b : Fin 8 → Fin 128 → EReal
  wo : Fin 1024 → Fin 1024 → EReal

/-- The input projection of a row. -/
def project (h : Fin 1024 → EReal) (w : Fin 1024 → Fin 2048 → EReal) (j : Fin 2048) : EReal := ∑ e : Fin 1024, h e * w e j

/-- The half of a projected row that is gated. -/
def left (z : Fin 2048 → EReal) (e : Fin 1024) : EReal := gelu (z ⟨e.val, by omega⟩)

/-- The half that is mixed. -/
def right (z : Fin 2048 → EReal) (e : Fin 1024) : EReal := gelu (z ⟨1024 + e.val, by omega⟩)

/-- The mix of a chunk's rows up to row `t`, by the matrix of the column's group. -/
def mix (ws : Fin 8 → Fin 128 → Fin 128 → EReal) (b : Fin 8 → Fin 128 → EReal) (v : Fin 128 → Fin 1024 → EReal) (t : Fin 128) (e : Fin 1024) : EReal :=
  ∑ s : Fin 128, (if s.val ≤ t.val then ws ⟨e.val / 128, by omega⟩ t s else 0) * v s e + b ⟨e.val / 128, by omega⟩ t

/-- The output projection of a row. -/
def lower (v : Fin 1024 → EReal) (w : Fin 1024 → Fin 1024 → EReal) (i : Fin 1024) : EReal := ∑ k : Fin 1024, v k * w k i

namespace Par

variable (p : Par) (X : Fin 128 → Fin 1024 → EReal)

/-- A chunk's projected rows. -/
def rows (s : Fin 128) : Fin 2048 → EReal := project (Cert.Ffn.rms (X s) p.g) p.w

/-- The gated mix. -/
def gated (t : Fin 128) (e : Fin 1024) : EReal :=
  left (p.rows X t) e * mix p.ws p.b (fun s => layer (right (p.rows X s)) p.lg p.lb) t e

/-- The block's result for row `t` of the chunk `X`. -/
def row (t : Fin 128) (i : Fin 1024) : EReal := X t i + Cert.Ffn.rms (lower (p.gated X t) p.wo) p.gp i

end Par

/-- Equal weights, rows and indices give equal results. -/
theorem row_congr {p p' : Par} {X X' : Fin 128 → Fin 1024 → EReal} {t t' : Fin 128} {i i' : Fin 1024} (hp : p = p')
    (hX : ∀ s e, X s e = X' s e) (ht : t = t') (hi : i = i') : p.row X t i = p'.row X' t' i' := by
  obtain rfl : X = X' := funext fun s => funext (hX s)
  rw [hp, ht, hi]

/-! ## The gelu as a tangent of a factored cubic -/

theorem ofBits_half : Ideal.ofBits .f32 1056964608#32 = ((1 / 2 : ℝ) : EReal) := by
  simp [Ideal.ofBits, Ideal.ieee]
  rw [← EReal.coe_mul]
  norm_num

theorem ofBits_root : Ideal.ofBits .f32 1061962282#32 = ((6693141 / 8388608 : ℝ) : EReal) := by
  simp [Ideal.ofBits, Ideal.ieee]
  rw [← EReal.coe_mul]
  norm_num

theorem ofBits_cube : Ideal.ofBits .f32 1027024659#32 = ((12003091 / 268435456 : ℝ) : EReal) := by
  simp [Ideal.ofBits, Ideal.ieee]
  rw [← EReal.coe_mul]
  norm_num

/-- The argument of the gelu's hyperbolic tangent, its cubic term factored. -/
theorem inner_eq (x : EReal) : Ideal.ofBits .f32 1061962282#32 * (x + Ideal.ofBits .f32 1027024659#32 * (x * x * x))
    = x * (Ideal.ofBits .f32 1061962282#32 + cubic * (x * x)) := by
  rw [ofBits_root, ofBits_cube, cubic]
  induction x using EReal.rec with
  | bot =>
    rw [EReal.bot_mul_bot, EReal.top_mul_bot, EReal.coe_mul_bot_of_pos (by norm_num), EReal.bot_add, EReal.coe_mul_bot_of_pos (by norm_num),
      EReal.coe_mul_top_of_pos (by norm_num), EReal.coe_add_top, EReal.bot_mul_top]
  | top =>
    rw [EReal.top_mul_top, EReal.top_mul_top, EReal.coe_mul_top_of_pos (by norm_num), EReal.top_add_top, EReal.coe_mul_top_of_pos (by norm_num),
      EReal.coe_mul_top_of_pos (by norm_num), EReal.coe_add_top, EReal.top_mul_top]
  | coe x =>
    norm_cast
    ring

/-- The gelu with its half outside. -/
theorem gelu_eq (x : EReal) : x * (Ideal.ofBits .f32 1056964608#32 * (1 + Ideal.tanh (Ideal.ofBits .f32 1061962282#32 * (x + Ideal.ofBits .f32 1027024659#32 * (x * x * x))))) = gelu x := by
  rw [gelu, inner_eq, ofBits_half, EReal.left_distrib_of_nonneg_of_ne_top (by norm_cast; norm_num) (EReal.coe_ne_top _), mul_one]

end Cert.Sgu

end
-- ==== Proof.SguTile.lean ====
module

public import proofs.«01_k».proof.Proof.Gen.Kernel3Ideal.Value
public import proofs.«01_k».proof.Proof.SguSpec
public import Idealize.ShloMosaic.Lib.Pointwise
public import Idealize.ShloMosaic.Lib.Claim
public import Idealize.ShloMosaic.Lib.Pipeline.ValueKit

/-! The spatial gating kernel's sub-tile of 256 rows, two chunks, as one function of its rows, read at an index. -/

@[expose] public section

set_option maxRecDepth 16384

noncomputable section

namespace Cert.Kernel3Ideal.Sgu

open Idealize.ShloMosaic Idealize.ShloMosaic.TcCoe Idealize.SL.Sem Cert.Kernel3Ideal Cert.Kernel3Ideal.Gen

/-- The gelu of projected rows. -/
def act (Z : FVec Ideal S256x2048 .f32) : FVec Ideal S256x2048 .f32 :=
  mulf Z (addf (broadcast S256x2048 (Scalar.ofBits .f32 0x3F000000#32)) (mulf (broadcast S256x2048 (Scalar.ofBits .f32 0x3F000000#32))
    (tanh (mulf Z (addf (broadcast S256x2048 (Scalar.ofBits .f32 0x3F4C422A#32)) (mulf (broadcast S256x2048 (Named.named κ "gelu_cubic" 0x3D122279#32)) (mulf Z Z)))))))

/-- The half that is gated. -/
def up (Z : FVec Ideal S256x2048 .f32) : FVec Ideal S256x1024 .f32 :=
  extractStridedSlice S256x1024 ![0, 0] (act Z) slices_S256x2048_o0_0_S256x1024

/-- The half that is mixed. -/
def value (Z : FVec Ideal S256x2048 .f32) : FVec Ideal S256x1024 .f32 :=
  extractStridedSlice S256x1024 ![0, 1024] (act Z) slices_S256x2048_o0_1024_S256x1024

/-- Rows less their means. -/
def centred (V : FVec Ideal S256x1024 .f32) : FVec Ideal S256x1024 .f32 :=
  subf V (broadcastTo S256x1024 (divf (shapeCast S256x1 (multiReduction .add [1] S256 V 0x00000000#32 reduces_S256x1024_S256 (.inl rfl) rfl) shapeCasts_S256_S256x1)
    (broadcast S256x1 (Scalar.ofBits .f32 0x44800000#32))) broadcasts_S256x1_S256x1024)

/-- The eight groups' mixes of both chunks, with the offsets, gated. -/
def mixed (W1 W2 W3 W4 W5 W6 W7 W8 : FVec Ideal S128x128 .bf16) (B : FVec Ideal S128x1024 .f32) (U : FVec Ideal S256x1024 .f32) (VN : FVec Ideal S256x1024 .bf16) : FVec Ideal S256x1024 .bf16 :=
  k0_pay35 W1 W2 W3 W4 W5 W6 W7 W8 B U VN (k0_pay29 W1 VN) (k0_pay30 W2 VN) (k0_pay31 W3 VN) (k0_pay32 W4 VN) (k0_pay33 W5 VN) (k0_pay34 W6 VN)

/-- A sub-tile's result from its projected rows. -/
def close (GP : FVec Ideal S1x1024 .f32) (L LB : Vec Ideal S1x1024 .f32) (W1 W2 W3 W4 W5 W6 W7 W8 : FVec Ideal S128x128 .bf16) (B : FVec Ideal S128x1024 .f32) (WO : Vec Ideal S1024x1024 .bf16)
    (Z : FVec Ideal S256x2048 .f32) (X : Vec Ideal S256x1024 .f32) : FVec Ideal S256x1024 .f32 :=
  k0_pay53 GP (k0_pay42 (mixed W1 W2 W3 W4 W5 W6 W7 W8 B (up Z) (k0_pay22 (centred (value Z)) (mulf (centred (value Z)) (centred (value Z))) L LB)) WO) X

theorem named_eq : (Named.named κ "gelu_cubic" 1024598649#32 : Ideal .f32) = Cert.Sgu.cubic := by
  simp [Named.named, κ, Cert.Sgu.cubic]

theorem normal_apply (G : Vec Ideal S1x1024 .f32) (X : Vec Ideal S256x1024 .f32) (r : Fin 256) (e : Fin 1024) :
    k0_pay14 (k0_pay2 G) X (ix2 r e) = Cert.Ffn.rms (fun e => X (ix2 r e)) (fun e => G (ix2 0 e)) e := by
  pointwise [k0_pay14, k0_pay2]
  rfl

theorem project_apply (H : FVec Ideal S256x1024 .bf16) (W : Vec Ideal S1024x2048 .bf16) (r : Fin 256) (j : Fin 2048) :
    k0_pay17 H W (ix2 r j) = Cert.Sgu.project (fun e => H (ix2 r e)) (fun e j => W (ix2 e j)) j := by
  pointwise [k0_pay17]
  rfl

theorem act_apply (Z : FVec Ideal S256x2048 .f32) (r : Fin 256) (j : Fin 2048) : act Z (ix2 r j) = Cert.Sgu.gelu (Z (ix2 r j)) := by
  pointwise [act]
  rw [named_eq]
  rfl

theorem up_apply (Z : FVec Ideal S256x2048 .f32) (r : Fin 256) (e : Fin 1024) : up Z (ix2 r e) = Cert.Sgu.left (fun j => Z (ix2 r j)) e := by
  pointwise [up]
  exact act_apply _ _ _

theorem value_apply (Z : FVec Ideal S256x2048 .f32) (r : Fin 256) (e : Fin 1024) : value Z (ix2 r e) = Cert.Sgu.right (fun j => Z (ix2 r j)) e := by
  pointwise [value]
  exact act_apply _ _ _

theorem centred_apply (V : FVec Ideal S256x1024 .f32) (r : Fin 256) (e : Fin 1024) : centred V (ix2 r e) = Cert.Sgu.centred (fun j => V (ix2 r j)) e := by
  pointwise [centred]
  rfl

theorem layer_apply (C : FVec Ideal S256x1024 .f32) (L LB : Vec Ideal S1x1024 .f32) (r : Fin 256) (e : Fin 1024) :
    k0_pay22 C (mulf C C) L LB (ix2 r e) = C (ix2 r e) * Ideal.rsqrt (Ideal.div (∑ i : Fin 1024, C (ix2 r i) * C (ix2 r i)) (Ideal.ofBits .f32 1149239296#32) + Ideal.ofBits .f32 897988541#32) * L (ix2 0 e) + LB (ix2 0 e) := by
  pointwise [k0_pay22]

theorem lower_apply (H : FVec Ideal S256x1024 .bf16) (WO : Vec Ideal S1024x1024 .bf16) (r : Fin 256) (i : Fin 1024) :
    k0_pay42 H WO (ix2 r i) = Cert.Sgu.lower (fun k => H (ix2 r k)) (fun k i => WO (ix2 k i)) i := by
  pointwise [k0_pay42]
  rfl

theorem finish_apply (GP : FVec Ideal S1x1024 .f32) (Y : FVec Ideal S256x1024 .f32) (X : Vec Ideal S256x1024 .f32) (r : Fin 256) (i : Fin 1024) :
    k0_pay53 GP Y X (ix2 r i) = X (ix2 r i) + Cert.Ffn.rms (fun e => Y (ix2 r e)) (fun e => GP (ix2 0 e)) i := by
  pointwise [k0_pay53]
  rfl

/-- The matrices of the eight groups, by number. -/
def pick (W1 W2 W3 W4 W5 W6 W7 W8 : FVec Ideal S128x128 .bf16) (n : ℕ) : FVec Ideal S128x128 .bf16 :=
  if n < 1 then W1 else if n < 2 then W2 else if n < 3 then W3 else if n < 4 then W4 else if n < 5 then W5 else if n < 6 then W6 else if n < 7 then W7 else W8

end Cert.Kernel3Ideal.Sgu

end
-- ==== Proof.SguMix.lean ====
module

public import proofs.«01_k».proof.Proof.SguTile

/-! The eight groups' mixes of a sub-tile's two chunks, read at an index. -/

@[expose] public section

set_option maxRecDepth 16384

noncomputable section

namespace Cert.Kernel3Ideal.Sgu

open Idealize.ShloMosaic Idealize.ShloMosaic.TcCoe Idealize.SL.Sem Cert.Kernel3Ideal Cert.Kernel3Ideal.Gen

/-- A case distinction has a value that both of its cases have. -/
theorem cases_eq {c : Prop} [Decidable c] {α : Type} {a : c → α} {b : ¬c → α} {x : α} (ha : ∀ h, a h = x) (hb : ∀ h, b h = x) : dite c a b = x := by
  by_cases h : c
  · rw [dif_pos h, ha]
  · rw [dif_neg h, hb]

set_option maxHeartbeats 4000000 in
/-- The gated mix at an index: the column's group's matrix, over the rows of the row's chunk. -/
theorem mixed_apply (W1 W2 W3 W4 W5 W6 W7 W8 : FVec Ideal S128x128 .bf16) (B : FVec Ideal S128x1024 .f32) (U : FVec Ideal S256x1024 .f32) (VN : FVec Ideal S256x1024 .bf16) (r : Fin 256) (e : Fin 1024) :
    mixed W1 W2 W3 W4 W5 W6 W7 W8 B U VN (ix2 r e) = U (ix2 r e) * (∑ s : Fin 128, pick W1 W2 W3 W4 W5 W6 W7 W8 (e.val / 128) (ix2 ⟨r.val % 128, by omega⟩ s) * VN (ix2 ⟨128 * (r.val / 128) + s.val, by omega⟩ e) + B (ix2 ⟨r.val % 128, by omega⟩ e)) := by
  pointwise [mixed, k0_pay35, k0_pay29, k0_pay30, k0_pay31, k0_pay32, k0_pay33, k0_pay34]
  have hB : ∀ (a a' : Fin 128), a.val = a'.val → B (ix2 a e) = B (ix2 a' e) := fun a a' h => by rw [Fin.ext h]
  have hS : ∀ (k : ℕ) (W : FVec Ideal S128x128 .bf16) (a : Fin 128 → Fin 128) (b : Fin 128 → Fin 256) (f : Fin 128 → Fin 1024), pick W1 W2 W3 W4 W5 W6 W7 W8 k = W →
      e.val / 128 = k → (∀ s, (a s).val = r.val % 128) → (∀ s, (b s).val = 128 * (r.val / 128) + s.val) → (∀ s, (f s).val = e.val) →
      ∑ s : Fin 128, W (ix2 (a s) s) * VN (ix2 (b s) (f s)) = ∑ s : Fin 128, pick W1 W2 W3 W4 W5 W6 W7 W8 (e.val / 128) (ix2 ⟨r.val % 128, by omega⟩ s) * VN (ix2 ⟨128 * (r.val / 128) + s.val, by omega⟩ e) := by
    intro k W a b f hW hk ha hb hf
    refine Finset.sum_congr rfl fun s _ => ?_
    rw [hk, hW, show f s = e from Fin.ext (hf s), show a s = ⟨r.val % 128, by omega⟩ from Fin.ext (ha s), show b s = ⟨128 * (r.val / 128) + s.val, by omega⟩ from Fin.ext (hb s)]
  refine congrArg (U (ix2 r e) * ·) ?_
  refine cases_eq (fun h => congrArg₂ (· + ·) ?_ (hB _ _ ?_)) (fun h => congrArg₂ (· + ·) ?_ (hB _ _ ?_))
  all_goals
    first
    | (dsimp only; omega)
    | repeat' refine cases_eq (fun _ => ?_) (fun _ => ?_)
  all_goals
    first
    | exact hS 0 _ _ _ _ rfl (by omega) (by first | omega | (dsimp only; omega)) (fun s => by first | omega | (dsimp only; omega)) (fun s => by first | omega | rfl | (dsimp only; omega))
    | exact hS 1 _ _ _ _ rfl (by omega) (by first | omega | (dsimp only; omega)) (fun s => by first | omega | (dsimp only; omega)) (fun s => by first | omega | rfl | (dsimp only; omega))
    | exact hS 2 _ _ _ _ rfl (by omega) (by first | omega | (dsimp only; omega)) (fun s => by first | omega | (dsimp only; omega)) (fun s => by first | omega | rfl | (dsimp only; omega))
    | exact hS 3 _ _ _ _ rfl (by omega) (by first | omega | (dsimp only; omega)) (fun s => by first | omega | (dsimp only; omega)) (fun s => by first | omega | rfl | (dsimp only; omega))
    | exact hS 4 _ _ _ _ rfl (by omega) (by first | omega | (dsimp only; omega)) (fun s => by first | omega | (dsimp only; omega)) (fun s => by first | omega | rfl | (dsimp only; omega))
    | exact hS 5 _ _ _ _ rfl (by omega) (by first | omega | (dsimp only; omega)) (fun s => by first | omega | (dsimp only; omega)) (fun s => by first | omega | rfl | (dsimp only; omega))
    | exact hS 6 _ _ _ _ rfl (by omega) (by first | omega | (dsimp only; omega)) (fun s => by first | omega | (dsimp only; omega)) (fun s => by first | omega | rfl | (dsimp only; omega))
    | exact hS 7 _ _ _ _ rfl (by omega) (by first | omega | (dsimp only; omega)) (fun s => by first | omega | (dsimp only; omega)) (fun s => by first | omega | rfl | (dsimp only; omega))

end Cert.Kernel3Ideal.Sgu

end
-- ==== Proof.SguPoint.lean ====
module

public import proofs.«01_k».proof.Proof.SguMix

/-! The spatial gating kernel's point: four sub-tiles, and its result at an index. -/

@[expose] public section

set_option maxRecDepth 16384

noncomputable section

namespace Cert.Kernel3Ideal.Sgu

open Idealize.ShloMosaic Idealize.ShloMosaic.TcCoe Idealize.SL.Sem Cert.Kernel3Ideal Cert.Kernel3Ideal.Gen

/-- A group's mixing matrix, nothing above the diagonal. -/
def lowerHalf (V : Vec Ideal S1x128x128 .bf16) : FVec Ideal S128x128 .bf16 :=
  select k0_pay4 (shapeCast S128x128 V shapeCasts_S1x128x128_S128x128) (broadcast S128x128 (Scalar.ofBits .bf16 0x0000#16))

variable (x0 : Vec Ideal S1024x1024 .f32) (x1 x2 : Vec Ideal S1x1024 .f32) (x3 : Vec Ideal S1024x2048 .bf16) (x4 x5 : Vec Ideal S1x1024 .f32)
  (x6 : Vec Ideal S8x128x128 .bf16) (x7 : Vec Ideal S128x1024 .f32) (x8 : Vec Ideal S1024x1024 .bf16)

/-- A sub-tile's result from the point's blocks and its rows. -/
def sub (X : Vec Ideal S256x1024 .f32) : FVec Ideal S256x1024 .f32 :=
  close (k0_pay3 (View.ld x2 r0_0)) (View.ld x4 r0_0) (View.ld x5 r0_0)
    (lowerHalf (View.ld x6 r0_1)) (lowerHalf (View.ld x6 r0_2)) (lowerHalf (View.ld x6 r0_3)) (lowerHalf (View.ld x6 r0_4))
    (lowerHalf (View.ld x6 r0_5)) (lowerHalf (View.ld x6 r0_6)) (lowerHalf (View.ld x6 r0_7)) (lowerHalf (View.ld x6 r0_8))
    (k0_pay13 (View.ld x7 r0_9)) (View.ld x8 r0_15)
    (k0_pay17 (k0_pay14 (k0_pay2 (View.ld x1 r0_0)) X) (View.ld x3 r0_12)) X

/-- The four stores of a point, each the sub-tile function of its rows. -/
theorem out_eq : out0_9 x0 x1 x2 x3 x4 x5 x6 x7 x8 = View.canon [
    ⟨r0_14, sub x1 x2 x3 x4 x5 x6 x7 x8 (View.ld x0 r0_14)⟩,
    ⟨r0_13, sub x1 x2 x3 x4 x5 x6 x7 x8 (View.ld x0 r0_13)⟩,
    ⟨r0_11, sub x1 x2 x3 x4 x5 x6 x7 x8 (View.ld x0 r0_11)⟩,
    ⟨r0_10, sub x1 x2 x3 x4 x5 x6 x7 x8 (View.ld x0 r0_10)⟩] := rfl

theorem below_word : ∀ s t : Fin 128, IntOp.cmpi CmpIPredicate.sle (BitVec.ofNat 32 s.val) (BitVec.ofNat 32 t.val) = if s.val ≤ t.val then 1#1 else 0#1 := by
  decide +kernel

theorem lowerHalf_apply (V : Vec Ideal S1x128x128 .bf16) (t s : Fin 128) : lowerHalf V (ix2 t s) = if s.val ≤ t.val then V (ix3 0 t s) else 0 := by
  pointwise [lowerHalf, k0_pay4]
  rw [below_word s t]
  by_cases h : s.val ≤ t.val
  · rw [if_pos h, if_pos h]; rfl
  · rw [if_neg h, if_neg h]; rfl

/-! ## The loads of whole blocks and of a group's matrix -/

theorem ld_row (x : Vec Ideal S1x1024 .f32) (e : Fin 1024) : View.ld x r0_0 (ix2 0 e) = x (ix2 0 e) := by
  show x _ = x _
  congr 1
  funext a
  fin_cases a <;> exact Fin.ext (by show 0 + 1 * _ = _; omega)

theorem ld_in (e : Fin 1024) (j : Fin 2048) : View.ld x3 r0_12 (ix2 e j) = x3 (ix2 e j) := by
  show x3 _ = x3 _
  congr 1
  funext a
  fin_cases a <;> exact Fin.ext (by show 0 + 1 * _ = _; omega)

theorem ld_offset (t : Fin 128) (e : Fin 1024) : View.ld x7 r0_9 (ix2 t e) = x7 (ix2 t e) := by
  show x7 _ = x7 _
  congr 1
  funext a
  fin_cases a <;> exact Fin.ext (by show 0 + 1 * _ = _; omega)

theorem ld_out (k i : Fin 1024) : View.ld x8 r0_15 (ix2 k i) = x8 (ix2 k i) := by
  show x8 _ = x8 _
  congr 1
  funext a
  fin_cases a <;> exact Fin.ext (by show 0 + 1 * _ = _; omega)

theorem ld_group (n : Fin 8) (inb : ∀ a, (![n.val, 0, 0] : Fin 3 → ℕ) a + S1x128x128.size a ≤ S8x128x128.size a) (t s : Fin 128) :
    View.ld x6 (Rect.unit (s := S8x128x128) ![n.val, 0, 0] S1x128x128.size inb) (ix3 0 t s) = x6 (ix3 n t s) := by
  show x6 _ = x6 _
  congr 1
  funext a
  fin_cases a
  · exact Fin.ext (by show n.val + 1 * 0 = n.val; omega)
  · exact Fin.ext (by show 0 + 1 * t.val = t.val; omega)
  · exact Fin.ext (by show 0 + 1 * s.val = s.val; omega)

/-- The matrix of a group by its number. -/
theorem pick_apply (n : Fin 8) (t s : Fin 128) :
    pick (lowerHalf (View.ld x6 r0_1)) (lowerHalf (View.ld x6 r0_2)) (lowerHalf (View.ld x6 r0_3)) (lowerHalf (View.ld x6 r0_4))
      (lowerHalf (View.ld x6 r0_5)) (lowerHalf (View.ld x6 r0_6)) (lowerHalf (View.ld x6 r0_7)) (lowerHalf (View.ld x6 r0_8)) n.val (ix2 t s)
      = if s.val ≤ t.val then x6 (ix3 n t s) else 0 := by
  have key : ∀ (n : Fin 8) (inb : ∀ a, (![n.val, 0, 0] : Fin 3 → ℕ) a + S1x128x128.size a ≤ S8x128x128.size a),
      lowerHalf (View.ld x6 (Rect.unit (s := S8x128x128) ![n.val, 0, 0] S1x128x128.size inb)) (ix2 t s) = if s.val ≤ t.val then x6 (ix3 n t s) else 0 :=
    fun n inb => by rw [lowerHalf_apply, ld_group]
  fin_cases n
  exacts [key 0 _, key 1 _, key 2 _, key 3 _, key 4 _, key 5 _, key 6 _, key 7 _]

theorem gain_apply (GP : Vec Ideal S1x1024 .f32) (i : Fin 1024) : k0_pay3 GP (ix2 0 i) = GP (ix2 0 i) := by
  pointwise [k0_pay3]

theorem offset_apply (B : Vec Ideal S128x1024 .f32) (t : Fin 128) (i : Fin 1024) : k0_pay13 B (ix2 t i) = B (ix2 t i) := by
  pointwise [k0_pay13]

/-- The layer norm of the mixed half. -/
theorem norm_apply (Z : FVec Ideal S256x2048 .f32) (L LB : Vec Ideal S1x1024 .f32) (r : Fin 256) (e : Fin 1024) :
    k0_pay22 (centred (value Z)) (mulf (centred (value Z)) (centred (value Z))) L LB (ix2 r e)
      = Cert.Sgu.layer (Cert.Sgu.right (fun j => Z (ix2 r j))) (fun e => L (ix2 0 e)) (fun e => LB (ix2 0 e)) e := by
  rw [layer_apply]
  simp only [centred_apply, value_apply]
  rfl

/-- Weights that a point's blocks hold. -/
structure Holds (p : Cert.Sgu.Par) : Prop where
  g : ∀ e, x1 (ix2 0 e) = p.g e
  gp : ∀ e, x2 (ix2 0 e) = p.gp e
  w : ∀ e j, x3 (ix2 e j) = p.w e j
  lg : ∀ e, x4 (ix2 0 e) = p.lg e
  lb : ∀ e, x5 (ix2 0 e) = p.lb e
  ws : ∀ n t s, x6 (ix3 n t s) = p.ws n t s
  b : ∀ (t : Fin 128) (e : Fin 1024), x7 (ix2 t e) = p.b ⟨e.val / 128, by omega⟩ t
  wo : ∀ k i, x8 (ix2 k i) = p.wo k i

variable {x1 x2 x3 x4 x5 x6 x7 x8} {p : Cert.Sgu.Par} (hp : Holds x1 x2 x3 x4 x5 x6 x7 x8 p)

include hp

/-- A sub-tile's result at an index is the block's result for that row of its chunk. -/
theorem sub_apply (X : Vec Ideal S256x1024 .f32) (r : Fin 256) (i : Fin 1024) :
    sub x1 x2 x3 x4 x5 x6 x7 x8 X (ix2 r i) = p.row (fun s e => X (ix2 ⟨128 * (r.val / 128) + s.val, by omega⟩ e)) ⟨r.val % 128, by omega⟩ i := by
  have hg : (fun e => View.ld x1 r0_0 (ix2 0 e)) = p.g := funext fun e => (ld_row _ e).trans (hp.g e)
  have hgp : (fun e => k0_pay3 (View.ld x2 r0_0) (ix2 0 e)) = p.gp := funext fun e => (gain_apply _ e).trans ((ld_row _ e).trans (hp.gp e))
  have hw : (fun e j => View.ld x3 r0_12 (ix2 e j)) = p.w := funext fun e => funext fun j => (ld_in _ e j).trans (hp.w e j)
  have hlg : (fun e => View.ld x4 r0_0 (ix2 0 e)) = p.lg := funext fun e => (ld_row _ e).trans (hp.lg e)
  have hlb : (fun e => View.ld x5 r0_0 (ix2 0 e)) = p.lb := funext fun e => (ld_row _ e).trans (hp.lb e)
  have hwo : (fun k i => View.ld x8 r0_15 (ix2 k i)) = p.wo := funext fun k => funext fun i => (ld_out _ k i).trans (hp.wo k i)
  have hb : ∀ (t : Fin 128) (e : Fin 1024), View.ld x7 r0_9 (ix2 t e) = p.b ⟨e.val / 128, by omega⟩ t := fun t e => (ld_offset _ t e).trans (hp.b t e)
  have hr : (⟨128 * (r.val / 128) + r.val % 128, by omega⟩ : Fin 256) = r := Fin.ext (Nat.div_add_mod _ _)
  have hz : ∀ q : Fin 256, (fun j => k0_pay17 (k0_pay14 (k0_pay2 (View.ld x1 r0_0)) X) (View.ld x3 r0_12) (ix2 q j)) = Cert.Sgu.project (Cert.Ffn.rms (fun e => X (ix2 q e)) p.g) p.w := fun q => by
    funext j
    rw [project_apply, hw]
    simp only [normal_apply]
    rw [hg]
  unfold sub close
  rw [finish_apply, hgp]
  simp only [lower_apply]
  rw [hwo]
  simp only [mixed_apply, up_apply, norm_apply, hz, hlg, hlb, offset_apply]
  have hpick : ∀ (e : Fin 1024) (t s : Fin 128), pick (lowerHalf (View.ld x6 r0_1)) (lowerHalf (View.ld x6 r0_2)) (lowerHalf (View.ld x6 r0_3)) (lowerHalf (View.ld x6 r0_4))
      (lowerHalf (View.ld x6 r0_5)) (lowerHalf (View.ld x6 r0_6)) (lowerHalf (View.ld x6 r0_7)) (lowerHalf (View.ld x6 r0_8)) (e.val / 128) (ix2 t s)
      = if s.val ≤ t.val then p.ws ⟨e.val / 128, by omega⟩ t s else 0 := fun e t s => by
    rw [← hp.ws]
    exact pick_apply x6 ⟨e.val / 128, by omega⟩ t s
  simp only [hpick]
  unfold Cert.Sgu.Par.row Cert.Sgu.Par.gated Cert.Sgu.Par.rows Cert.Sgu.mix
  simp only [hr, hb]

/-- A point's result at an index is the block's result for that row of its chunk. -/
theorem out_apply (r i : Fin 1024) : out0_9 x0 x1 x2 x3 x4 x5 x6 x7 x8 (ix2 r i)
    = p.row (fun s e => x0 (ix2 ⟨128 * (r.val / 128) + s.val, by omega⟩ e)) ⟨r.val % 128, by omega⟩ i := by
  rw [out_eq]
  refine View.canon_apply_of_pieces (Val := Elt Ideal) (S := S1024x1024) (e := .f32) (fun y : S1024x1024.Idx => p.row (fun s e => x0 (ix2 ⟨128 * ((y 0 : Fin 1024).val / 128) + s.val, by have : (y 0 : Fin 1024).val < 1024 := (y 0 : Fin 1024).isLt; omega⟩ e)) ⟨(y 0 : Fin 1024).val % 128, by omega⟩ (y 1)) _ ?_ (ix2 r i) (cover0_9 _ _ _ _ _)
  have key : ∀ (n : Fin 4) (inb : ∀ a, (![256 * n.val, 0] : Fin 2 → ℕ) a + S256x1024.size a ≤ S1024x1024.size a) (x : S256x1024.Idx),
      sub x1 x2 x3 x4 x5 x6 x7 x8 (View.ld x0 (Rect.unit (s := S1024x1024) ![256 * n.val, 0] S256x1024.size inb)) x
        = (fun y : S1024x1024.Idx => p.row (fun s e => x0 (ix2 ⟨128 * ((y 0 : Fin 1024).val / 128) + s.val, by have : (y 0 : Fin 1024).val < 1024 := (y 0 : Fin 1024).isLt; omega⟩ e)) ⟨(y 0 : Fin 1024).val % 128, by omega⟩ (y 1))
          ((Rect.unit (s := S1024x1024) ![256 * n.val, 0] S256x1024.size inb).emb x) := fun n inb x => by
    obtain ⟨q, i, rfl⟩ : ∃ (q : Fin 256) (i : Fin 1024), x = ix2 q i := ⟨x 0, x 1, by funext a; fin_cases a <;> rfl⟩
    have e0 : (((Rect.unit (s := S1024x1024) ![256 * n.val, 0] S256x1024.size inb).emb (ix2 q i) : S1024x1024.Idx) 0 : Fin 1024).val = 256 * n.val + q.val := by show 256 * n.val + 1 * q.val = _; omega
    have e1 : ((Rect.unit (s := S1024x1024) ![256 * n.val, 0] S256x1024.size inb).emb (ix2 q i) : S1024x1024.Idx) 1 = i := Fin.ext (by show 0 + 1 * i.val = i.val; omega)
    refine (sub_apply hp _ q i).trans (Cert.Sgu.row_congr rfl (fun s e => ?_) (Fin.ext ?_) e1.symm)
    · show x0 _ = x0 _
      congr 1
      funext a
      fin_cases a
      · refine Fin.ext ?_
        show 256 * n.val + 1 * (128 * (q.val / 128) + s.val) = 128 * ((((Rect.unit (s := S1024x1024) ![256 * n.val, 0] S256x1024.size inb).emb (ix2 q i) : S1024x1024.Idx) 0 : Fin 1024).val / 128) + s.val
        rw [e0]; omega
      · exact Fin.ext (by show 0 + 1 * e.val = e.val; omega)
    · show q.val % 128 = (((Rect.unit (s := S1024x1024) ![256 * n.val, 0] S256x1024.size inb).emb (ix2 q i) : S1024x1024.Idx) 0 : Fin 1024).val % 128
      rw [e0]; omega
  intro pc hpc
  simp only [List.mem_cons, List.not_mem_nil, or_false] at hpc
  rcases hpc with rfl | rfl | rfl | rfl
  exacts [key 3 _, key 2 _, key 1 _, key 0 _]

end Cert.Kernel3Ideal.Sgu

end
-- ==== Proof.SguArray.lean ====
module

public import proofs.«01_k».proof.Proof.SguPoint

/-! The spatial gating kernel's result array. -/

@[expose] public section

set_option maxRecDepth 16384

noncomputable section

namespace Cert.Kernel3Ideal.Sgu

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-! ## The host's arrays at an index -/

theorem host_x (r : Fin 32768) (e : Fin 1024) : V m c main_v0 (ix2 r e) = m (c, Proc.tc.devRef main_arg0) (ix3 ⟨r.val / 4096, by omega⟩ ⟨r.val % 4096, by omega⟩ e) := by entry_read; pointwise
theorem host_g (e : Fin 1024) : V m c main_v7 (ix2 0 e) = m (c, Proc.tc.devRef main_arg1) (ix2 1 e) := by entry_read; pointwise
theorem host_gp (e : Fin 1024) : V m c main_v10 (ix2 0 e) = m (c, Proc.tc.devRef main_arg2) (ix2 1 e) := by entry_read; pointwise
theorem host_w (e : Fin 1024) (j : Fin 2048) : V m c main_v12 (ix2 e j) = m (c, Proc.tc.devRef main_arg3) (ix3 0 e j) := by entry_read; pointwise
theorem host_lg (e : Fin 1024) : V m c main_v14 (ix2 0 e) = m (c, Proc.tc.devRef main_arg4) (ix2 0 e) := by entry_read; pointwise
theorem host_lb (e : Fin 1024) : V m c main_v16 (ix2 0 e) = m (c, Proc.tc.devRef main_arg5) (ix2 0 e) := by entry_read; pointwise
theorem host_ws (n : Fin 8) (t s : Fin 128) : V m c main_v18 (ix3 n t s) = m (c, Proc.tc.devRef main_arg6) (ix4 0 n t s) := by entry_read; pointwise
theorem host_b (t : Fin 128) (e : Fin 1024) : V m c main_v4 (ix2 t e) = m (c, Proc.tc.devRef main_arg7) (ix3 0 ⟨e.val / 128, by omega⟩ t) := by entry_read; pointwise
theorem host_wo (k i : Fin 1024) : V m c main_v20 (ix2 k i) = m (c, Proc.tc.devRef main_arg8) (ix3 0 k i) := by entry_read; pointwise

/-! ## The blocks of a grid point -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel

theorem lt_32 (t : Fin cfg0.N) : t.val < 32 := lt_of_lt_of_eq t.isLt (show cfg0.N = 32 from N_0)

theorem blk0 (t : Fin cfg0.N) (r e : Fin 1024) : iblk m c 0 t (ix2 r e)
    = V m c main_v0 (ix2 ⟨1024 * t.val + r.val, by have := lt_32 t; omega⟩ e) := by blk_ext [iblk, idx0 t]
theorem blk1 (t : Fin cfg0.N) (e : Fin 1024) : iblk m c 1 t (ix2 0 e) = V m c main_v7 (ix2 0 e) := by blk_ext [iblk, idx1 t]
theorem blk2 (t : Fin cfg0.N) (e : Fin 1024) : iblk m c 2 t (ix2 0 e) = V m c main_v10 (ix2 0 e) := by blk_ext [iblk, idx2 t]
theorem blk3 (t : Fin cfg0.N) (e : Fin 1024) (j : Fin 2048) : iblk m c 3 t (ix2 e j) = V m c main_v12 (ix2 e j) := by blk_ext [iblk, idx3 t]
theorem blk4 (t : Fin cfg0.N) (e : Fin 1024) : iblk m c 4 t (ix2 0 e) = V m c main_v14 (ix2 0 e) := by blk_ext [iblk, idx4 t]
theorem blk5 (t : Fin cfg0.N) (e : Fin 1024) : iblk m c 5 t (ix2 0 e) = V m c main_v16 (ix2 0 e) := by blk_ext [iblk, idx5 t]
theorem blk6 (t : Fin cfg0.N) (n : Fin 8) (q s : Fin 128) : iblk m c 6 t (ix3 n q s) = V m c main_v18 (ix3 n q s) := by blk_ext [iblk, idx6 t]
theorem blk7 (t : Fin cfg0.N) (q : Fin 128) (e : Fin 1024) : iblk m c 7 t (ix2 q e) = V m c main_v4 (ix2 q e) := by blk_ext [iblk, idx7 t]
theorem blk8 (t : Fin cfg0.N) (k i : Fin 1024) : iblk m c 8 t (ix2 k i) = V m c main_v20 (ix2 k i) := by blk_ext [iblk, idx8 t]

/-- The weights among the program's arguments. -/
def par : Cert.Sgu.Par where
  g := fun e => m (c, Proc.tc.devRef main_arg1) (ix2 1 e)
  gp := fun e => m (c, Proc.tc.devRef main_arg2) (ix2 1 e)
  w := fun e j => m (c, Proc.tc.devRef main_arg3) (ix3 0 e j)
  lg := fun e => m (c, Proc.tc.devRef main_arg4) (ix2 0 e)
  lb := fun e => m (c, Proc.tc.devRef main_arg5) (ix2 0 e)
  ws := fun n t s => m (c, Proc.tc.devRef main_arg6) (ix4 0 n t s)
  b := fun n t => m (c, Proc.tc.devRef main_arg7) (ix3 0 n t)
  wo := fun k i => m (c, Proc.tc.devRef main_arg8) (ix3 0 k i)

/-- Every point's blocks hold them. -/
theorem holds (t : Fin cfg0.N) : Holds (iblk m c 1 t) (iblk m c 2 t) (iblk m c 3 t) (iblk m c 4 t) (iblk m c 5 t) (iblk m c 6 t) (iblk m c 7 t) (iblk m c 8 t) (par m c) where
  g := fun e => (blk1 m c t e).trans (host_g m c e)
  gp := fun e => (blk2 m c t e).trans (host_gp m c e)
  w := fun e j => (blk3 m c t e j).trans (host_w m c e j)
  lg := fun e => (blk4 m c t e).trans (host_lg m c e)
  lb := fun e => (blk5 m c t e).trans (host_lb m c e)
  ws := fun n q s => (blk6 m c t n q s).trans (host_ws m c n q s)
  b := fun q e => (blk7 m c t q e).trans (host_b m c q e)
  wo := fun k i => (blk8 m c t k i).trans (host_wo m c k i)

/-- The layer's result at row `r`, column `i`, out of the program's arguments. -/
def res (r : Fin 32768) (i : Fin 1024) : EReal :=
  (par m c).row (fun s e => m (c, Proc.tc.devRef main_arg0) (ix3 ⟨r.val / 4096, by omega⟩ ⟨128 * (r.val % 4096 / 128) + s.val, by omega⟩ e)) ⟨r.val % 128, by omega⟩ i

theorem point (t : Fin cfg0.N) (r i : Fin 1024) :
    out0_9 (iblk m c 0 t) (iblk m c 1 t) (iblk m c 2 t) (iblk m c 3 t) (iblk m c 4 t) (iblk m c 5 t) (iblk m c 6 t) (iblk m c 7 t) (iblk m c 8 t) (ix2 r i)
      = res m c ⟨1024 * t.val + r.val, by have := lt_32 t; omega⟩ i := by
  refine (out_apply _ (holds m c t) r i).trans (Cert.Sgu.row_congr rfl (fun s e => ?_) (Fin.ext (by dsimp only; omega)) rfl)
  refine (blk0 m c t _ e).trans ((host_x m c _ e).trans ?_)
  have := lt_32 t
  refine congrArg (m (c, Proc.tc.devRef main_arg0)) (congrArg₂ (fun a b => ix3 a b e) (Fin.ext ?_) (Fin.ext ?_))
  · show (1024 * t.val + (128 * (r.val / 128) + s.val)) / 4096 = (1024 * t.val + r.val) / 4096
    omega
  · show (1024 * t.val + (128 * (r.val / 128) + s.val)) % 4096 = 128 * ((1024 * t.val + r.val) % 4096 / 128) + s.val
    omega

/-- The result array of the kernel is the block's result, every row. -/
theorem arr_eq : (dats m 0 c).arrAt 9 cfg0.N = fun i : S32768x1024.Idx => res m c (i 0) (i 1) := by
  refine (dats m 0 c).arrAt_eq_of_covers 9 _ (by decide +kernel) fun t hf y => ?_
  blk_simp
  rw [after0_9]
  obtain ⟨r, e, rfl⟩ : ∃ (r e : Fin 1024), y = ix2 r e := ⟨y 0, y 1, by funext a; fin_cases a <;> rfl⟩
  refine (point m c t r e).trans ?_
  have e0 : (((cfg0.win 9).blk t).view.emb (ix2 r e) : S32768x1024.Idx) 0 = (⟨1024 * t.val + r.val, by have := lt_32 t; omega⟩ : Fin 32768) :=
    Fin.ext (by blk_simp [idx9 t]; exact congrArg (· + r.val) (Nat.mul_comm _ _))
  have e1 : (((cfg0.win 9).blk t).view.emb (ix2 r e) : S32768x1024.Idx) 1 = e :=
    Fin.ext (by blk_simp [idx9 t]; try omega)
  dsimp only
  rw [e0, e1]

end Cert.Kernel3Ideal.Sgu

end
-- ==== Proof.SguRef.lean ====
module

public import proofs.«01_k».proof.Proof.Gen.Reference3Ideal.Run
public import proofs.«01_k».proof.Proof.SguSpec
public import Idealize.ShloMosaic.Lib.Pointwise
public import Idealize.ShloMosaic.Lib.Claim
public import Idealize.ShloMosaic.Lib.Pipeline.ValueKit

/-! The spatial gating reference's result at an index. -/

@[expose] public section

set_option maxRecDepth 16384

noncomputable section

namespace Cert.Reference3Ideal.Sgu

open Idealize.ShloMosaic Idealize.ShloMosaic.TcCoe Idealize.SL.Sem Cert.Reference3Ideal Cert.Reference3Ideal.Gen Cert.Reference3Ideal.Value

/-- Rows normalised and scaled by the second of two gains. -/
def normal (U : FVec Ideal S8x4096x1024 .f32) (G : FVec Ideal S2x1024 .f32) : FVec Ideal S8x4096x1024 .f32 :=
  mulf (mulf U (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf U U) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![1, 0] G slices_S2x1024_S1x1024_1_0) shapeCasts_S1x1024_S1024)))

theorem normal_apply (U : FVec Ideal S8x4096x1024 .f32) (G : FVec Ideal S2x1024 .f32) (b : Fin 8) (s : Fin 4096) (i : Fin 1024) :
    normal U G (ix3 b s i) = Cert.Ffn.rms (fun e => U (ix3 b s e)) (fun e => G (ix2 1 e)) i := by
  pointwise [normal]
  rfl

/-- The input projection of rows. -/
def projected (H : FVec Ideal S8x4096x1024 .f32) (W : FVec Ideal S1x1024x2048 .f32) : FVec Ideal S8x4096x2048 .f32 :=
  Host.dotGeneral dot_S8x4096x1024_S1024x2048_S8x4096x2048_2_0_01_1_n_n none H (shapeCast _ W shapeCasts_S1x1024x2048_S1024x2048)

theorem projected_apply (H : FVec Ideal S8x4096x1024 .f32) (W : FVec Ideal S1x1024x2048 .f32) (b : Fin 8) (s : Fin 4096) (j : Fin 2048) :
    projected H W (ix3 b s j) = Cert.Sgu.project (fun e => H (ix3 b s e)) (fun e j => W (ix3 0 e j)) j := by
  pointwise [projected]
  rfl

/-- The gelu of projected rows. -/
def act (Z : FVec Ideal S8x4096x2048 .f32) : FVec Ideal S8x4096x2048 .f32 :=
  mulf Z (mulf (broadcastInDim S8x4096x2048 ![] bcast_S_S8x4096x2048 (constant S_ .f32 0x3F000000#32)) (addf (broadcastInDim S8x4096x2048 ![] bcast_S_S8x4096x2048 (constant S_ .f32 0x3F800000#32)) (Host.tanh (mulf (broadcastInDim S8x4096x2048 ![] bcast_S_S8x4096x2048 (constant S_ .f32 0x3F4C422A#32)) (addf Z (mulf (broadcastInDim S8x4096x2048 ![] bcast_S_S8x4096x2048 (constant S_ .f32 0x3D372713#32)) (mulf (mulf Z Z) Z)))))))

theorem act_apply (Z : FVec Ideal S8x4096x2048 .f32) (b : Fin 8) (s : Fin 4096) (j : Fin 2048) :
    act Z (ix3 b s j) = Cert.Sgu.gelu (Z (ix3 b s j)) := by
  pointwise [act]
  exact Cert.Sgu.gelu_eq _

/-- The half that is gated. -/
def up (A : FVec Ideal S8x4096x2048 .f32) : FVec Ideal S8x4096x1024 .f32 :=
  extractStridedSlice S8x4096x1024 ![0, 0, 0] A slices_S8x4096x2048_S8x4096x1024_0_0_0

/-- The half that is mixed. -/
def value (A : FVec Ideal S8x4096x2048 .f32) : FVec Ideal S8x4096x1024 .f32 :=
  extractStridedSlice S8x4096x1024 ![0, 0, 1024] A slices_S8x4096x2048_S8x4096x1024_0_0_1024

theorem up_apply (Z : FVec Ideal S8x4096x2048 .f32) (b : Fin 8) (s : Fin 4096) (e : Fin 1024) : up (act Z) (ix3 b s e) = Cert.Sgu.left (fun j => Z (ix3 b s j)) e := by
  pointwise [up]
  exact act_apply _ _ _ _

theorem value_apply (Z : FVec Ideal S8x4096x2048 .f32) (b : Fin 8) (s : Fin 4096) (e : Fin 1024) : value (act Z) (ix3 b s e) = Cert.Sgu.right (fun j => Z (ix3 b s j)) e := by
  pointwise [value]
  exact act_apply _ _ _ _

/-- Rows less their means. -/
def centred (V : FVec Ideal S8x4096x1024 .f32) : FVec Ideal S8x4096x1024 .f32 :=
  subf V (broadcastInDim S8x4096x1024 ![0, 1, 2] bcast_S8x4096x1_S8x4096x1024_0_1_2 (Host.divf (broadcastInDim S8x4096x1 ![0, 1] bcast_S8x4096_S8x4096x1_0_1 (Host.reduceAdd V (constant S_ .f32 0x00000000#32) reducesTo_S8x4096x1024_S8x4096_d2 h_S_)) (broadcastInDim S8x4096x1 ![] bcast_S_S8x4096x1 (constant S_ .f32 0x44800000#32))))

theorem centred_apply (V : FVec Ideal S8x4096x1024 .f32) (b : Fin 8) (s : Fin 4096) (e : Fin 1024) :
    centred V (ix3 b s e) = Cert.Sgu.centred (fun j => V (ix3 b s j)) e := by
  pointwise [centred]
  rfl

/-- Centred rows scaled to variance one, times a gain, plus an offset. -/
def scaled (C : FVec Ideal S8x4096x1024 .f32) (L LB : FVec Ideal S1x1024 .f32) : FVec Ideal S8x4096x1024 .f32 :=
  addf (mulf (mulf C (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf C C) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ L shapeCasts_S1x1024_S1024)))) (broadcastInDim S8x4096x1024 ![0, 1, 2] bcast_S1x1x1024_S8x4096x1024_0_1_2 (broadcastInDim S1x1x1024 ![2] bcast_S1024_S1x1x1024_2 (shapeCast _ LB shapeCasts_S1x1024_S1024)))

theorem scaled_apply (V : FVec Ideal S8x4096x1024 .f32) (L LB : FVec Ideal S1x1024 .f32) (b : Fin 8) (s : Fin 4096) (e : Fin 1024) :
    scaled (centred V) L LB (ix3 b s e) = Cert.Sgu.layer (fun j => V (ix3 b s j)) (fun e => L (ix2 0 e)) (fun e => LB (ix2 0 e)) e := by
  pointwise [scaled]
  simp only [centred_apply]
  rfl

/-- The mixing matrices, nothing above the diagonal. -/
def lowerHalf (W : FVec Ideal S1x8x128x128 .f32) : FVec Ideal S8x128x128 .f32 :=
  mulf (shapeCast _ W shapeCasts_S1x8x128x128_S8x128x128) (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

theorem below_word : ∀ s t : Fin 128, IntOp.cmpi CmpIPredicate.sge (IntOp.addi (BitVec.ofNat 32 t.val) 0#32) (BitVec.ofNat 32 s.val) = if s.val ≤ t.val then 1#1 else 0#1 := by
  decide +kernel

theorem lowerHalf_apply (W : FVec Ideal S1x8x128x128 .f32) (n : Fin 8) (t s : Fin 128) : lowerHalf W (ix3 n t s) = if s.val ≤ t.val then W (ix4 0 n t s) else 0 := by
  pointwise [lowerHalf]
  rw [below_word s t]
  by_cases h : s.val ≤ t.val
  · rw [if_pos h, if_pos h]; rfl
  · rw [if_neg h, if_neg h]; rfl

/-- The mix of the chunks, with the offsets. -/
def mixed (VN : FVec Ideal S8x4096x1024 .f32) (W : FVec Ideal S8x128x128 .f32) (B : FVec Ideal S1x8x128 .f32) : FVec Ideal S8x4096x1024 .f32 :=
  shapeCast _ (addf (transpose S8x32x128x8x128 [1, 2, 4, 0, 3] (Host.dotGeneral dot_S8x32x128x8x128_S8x128x128_S8x8x32x128x128_2_2_014_1_3_0 none (shapeCast _ VN shapeCasts_S8x4096x1024_S8x32x128x8x128) W) transposes_S8x8x32x128x128_S8x32x128x8x128_1_2_4_0_3) (broadcastInDim S8x32x128x8x128 ![0, 1, 2, 3, 4] bcast_S1x1x128x8x1_S8x32x128x8x128_0_1_2_3_4 (broadcastInDim S1x1x128x8x1 ![2, 3] bcast_S128x8_S1x1x128x8x1_2_3 (transpose S128x8 [1, 0] (shapeCast _ B shapeCasts_S1x8x128_S8x128) transposes_S8x128_S128x8_1_0)))) shapeCasts_S8x32x128x8x128_S8x4096x1024

theorem mixed_apply (VN : FVec Ideal S8x4096x1024 .f32) (W : FVec Ideal S8x128x128 .f32) (B : FVec Ideal S1x8x128 .f32) (b : Fin 8) (s : Fin 4096) (e : Fin 1024) :
    mixed VN W B (ix3 b s e) = ∑ q : Fin 128, W (ix3 ⟨e.val / 128, by omega⟩ ⟨s.val % 128, by omega⟩ q) * VN (ix3 b ⟨128 * (s.val / 128) + q.val, by omega⟩ e) + B (ix3 0 ⟨e.val / 128, by omega⟩ ⟨s.val % 128, by omega⟩) := by
  pointwise [mixed]
  refine congrArg (· + _) (Finset.sum_congr rfl fun q _ => ?_)
  rw [mul_comm]
  simp only [Nat.mul_comm]

/-- The output projection of gated rows. -/
def lowered (H : FVec Ideal S8x4096x1024 .f32) (W : FVec Ideal S1x1024x1024 .f32) : FVec Ideal S8x4096x1024 .f32 :=
  Host.dotGeneral dot_S8x4096x1024_S1024x1024_S8x4096x1024_2_0_01_1_n_n none H (shapeCast _ W shapeCasts_S1x1024x1024_S1024x1024)

theorem lowered_apply (H : FVec Ideal S8x4096x1024 .f32) (W : FVec Ideal S1x1024x1024 .f32) (b : Fin 8) (s : Fin 4096) (i : Fin 1024) :
    lowered H W (ix3 b s i) = Cert.Sgu.lower (fun k => H (ix3 b s k)) (fun k i => W (ix3 0 k i)) i := by
  pointwise [lowered]
  rfl

/-- The result, its two leading axes flattened. -/
def flat (X Y : FVec Ideal S8x4096x1024 .f32) : FVec Ideal S32768x1024 .f32 :=
  shapeCast _ (addf X Y) shapeCasts_S8x4096x1024_S32768x1024

theorem flat_apply (X Y : FVec Ideal S8x4096x1024 .f32) (r : Fin 32768) (i : Fin 1024) :
    flat X Y (ix2 r i) = X (ix3 ⟨r.val / 4096, by omega⟩ ⟨r.val % 4096, by omega⟩ i) + Y (ix3 ⟨r.val / 4096, by omega⟩ ⟨r.val % 4096, by omega⟩ i) := by
  pointwise [flat]

variable (V : Valuation τ sig (Elt Ideal))

/-- The reference's projected rows. -/
def rows : FVec Ideal S8x4096x2048 .f32 := projected (normal (V (Proc.devRef .tc main_arg0)) (V (Proc.devRef .tc main_arg1))) (V (Proc.devRef .tc main_arg3))

/-- The reference's gated mix, projected, is made of these parts. -/
theorem lowered_parts : res_main_v75 V = lowered (mulf (up (act (rows V))) (mixed (scaled (centred (value (act (rows V)))) (V (Proc.devRef .tc main_arg4)) (V (Proc.devRef .tc main_arg5)))
    (lowerHalf (V (Proc.devRef .tc main_arg6))) (V (Proc.devRef .tc main_arg7)))) (V (Proc.devRef .tc main_arg8)) := rfl

/-- The weights the reference reads. -/
def par : Cert.Sgu.Par where
  g := fun e => (V (Proc.devRef .tc main_arg1) : FVec Ideal S2x1024 .f32) (ix2 1 e)
  gp := fun e => (V (Proc.devRef .tc main_arg2) : FVec Ideal S2x1024 .f32) (ix2 1 e)
  w := fun e j => (V (Proc.devRef .tc main_arg3) : FVec Ideal S1x1024x2048 .f32) (ix3 0 e j)
  lg := fun e => (V (Proc.devRef .tc main_arg4) : FVec Ideal S1x1024 .f32) (ix2 0 e)
  lb := fun e => (V (Proc.devRef .tc main_arg5) : FVec Ideal S1x1024 .f32) (ix2 0 e)
  ws := fun n t s => (V (Proc.devRef .tc main_arg6) : FVec Ideal S1x8x128x128 .f32) (ix4 0 n t s)
  b := fun n t => (V (Proc.devRef .tc main_arg7) : FVec Ideal S1x8x128 .f32) (ix3 0 n t)
  wo := fun k i => (V (Proc.devRef .tc main_arg8) : FVec Ideal S1x1024x1024 .f32) (ix3 0 k i)

/-- The reference's result at an index is the block's result for that row of its chunk. -/
theorem result_apply (r : Fin 32768) (i : Fin 1024) :
    flat (V (Proc.devRef .tc main_arg0)) (normal (res_main_v75 V) (V (Proc.devRef .tc main_arg2))) (ix2 r i)
      = (par V).row (fun s e => (V (Proc.devRef .tc main_arg0) : FVec Ideal S8x4096x1024 .f32) (ix3 ⟨r.val / 4096, by omega⟩ ⟨128 * (r.val % 4096 / 128) + s.val, by omega⟩ e)) ⟨r.val % 128, by omega⟩ i := by
  have hr : (⟨128 * (r.val % 4096 / 128) + r.val % 128, by omega⟩ : Fin 4096) = ⟨r.val % 4096, by omega⟩ := Fin.ext (by dsimp only; omega)
  have hm : (⟨r.val % 4096 % 128, by omega⟩ : Fin 128) = ⟨r.val % 128, by omega⟩ := Fin.ext (by dsimp only; omega)
  have hz : ∀ (b : Fin 8) (s : Fin 4096), (fun j => rows V (ix3 b s j)) = Cert.Sgu.project (Cert.Ffn.rms (fun e => (V (Proc.devRef .tc main_arg0) : FVec Ideal S8x4096x1024 .f32) (ix3 b s e)) (par V).g) (par V).w := fun b s => by
    funext j
    unfold rows
    rw [projected_apply]
    simp only [normal_apply]
    rfl
  have hg : ∀ (b : Fin 8) (s : Fin 4096) (e : Fin 1024), (mulf (up (act (rows V))) (mixed (scaled (centred (value (act (rows V)))) (V (Proc.devRef .tc main_arg4)) (V (Proc.devRef .tc main_arg5)))
      (lowerHalf (V (Proc.devRef .tc main_arg6))) (V (Proc.devRef .tc main_arg7)))) (ix3 b s e)
      = (par V).gated (fun q e => (V (Proc.devRef .tc main_arg0) : FVec Ideal S8x4096x1024 .f32) (ix3 b ⟨128 * (s.val / 128) + q.val, by omega⟩ e)) ⟨s.val % 128, by omega⟩ e := fun b s e => by
    have hs : (⟨128 * (s.val / 128) + s.val % 128, by omega⟩ : Fin 4096) = s := Fin.ext (Nat.div_add_mod _ _)
    show up (act (rows V)) (ix3 b s e) * mixed _ _ _ (ix3 b s e) = _
    rw [up_apply, mixed_apply]
    simp only [scaled_apply, value_apply, lowerHalf_apply, hz]
    unfold Cert.Sgu.Par.gated Cert.Sgu.Par.rows Cert.Sgu.mix
    simp only [hs]
    rfl
  rw [flat_apply, normal_apply, lowered_parts]
  simp only [lowered_apply, hg, hm]
  unfold Cert.Sgu.Par.row
  simp only [hr]
  rfl

end Cert.Reference3Ideal.Sgu

end
-- ==== Proof.SpatialGating.lean ====
module

public import proofs.«01_k».proof.Defs
public import proofs.«01_k».proof.Proof.SguArray
public import proofs.«01_k».proof.Proof.SguRef

/-! The spatial gating call: kernel and reference agree on extended reals. -/

@[expose] public section

set_option maxRecDepth 16384

noncomputable section

namespace Cert.Proof

open Idealize.ShloMosaic Idealize.ShloMosaic.StableHlo Idealize.SL.Sem

/-- On extended reals the spatial gating kernel and its reference end with equal results and unchanged arguments,
    whatever the arguments. -/
theorem spatialGating : Cert.algebraic_Kernel3Ideal_Reference3Ideal := by
  intro m g m' g' hpre hargs
  refine ⟨fun c => fun i : Cert.Kernel3Ideal.S32768x1024.Idx => Cert.Kernel3Ideal.Sgu.res m c (i 0) (i 1), ?_, ?_⟩
  · exact (θ_run _ _ _).mono (fun r h c => ⟨(h c).1.trans (Cert.Kernel3Ideal.Sgu.arr_eq m c), (h c).2⟩) (Cert.Kernel3Ideal.Value.run_blocks m g)
  · refine (θ_run _ _ _).mono (fun r h c => ⟨(h c).1.trans ?_, (h c).2⟩) (Cert.Reference3Ideal.Value.run m' g')
    obtain ⟨h0, h1, h2, h3, h4, h5, h6, h7, h8⟩ := hargs c
    funext i
    obtain ⟨r, e, rfl⟩ : ∃ (r : Fin 32768) (e : Fin 1024), i = ix2 r e := ⟨i 0, i 1, by funext a; fin_cases a <;> rfl⟩
    refine (Cert.Reference3Ideal.Sgu.result_apply (launchContents m' c) r e).trans ?_
    have hp : Cert.Reference3Ideal.Sgu.par (launchContents m' c) = Cert.Kernel3Ideal.Sgu.par m c := by
      unfold Cert.Reference3Ideal.Sgu.par Cert.Kernel3Ideal.Sgu.par
      have e1 : ∀ i, launchContents m' c (Proc.devRef .tc Cert.Reference3Ideal.main_arg1) i = m (c, Proc.tc.devRef Cert.Kernel3Ideal.main_arg1) i := fun i => congrFun h1 i
      have e2 : ∀ i, launchContents m' c (Proc.devRef .tc Cert.Reference3Ideal.main_arg2) i = m (c, Proc.tc.devRef Cert.Kernel3Ideal.main_arg2) i := fun i => congrFun h2 i
      have e3 : ∀ i, launchContents m' c (Proc.devRef .tc Cert.Reference3Ideal.main_arg3) i = m (c, Proc.tc.devRef Cert.Kernel3Ideal.main_arg3) i := fun i => congrFun h3 i
      have e4 : ∀ i, launchContents m' c (Proc.devRef .tc Cert.Reference3Ideal.main_arg4) i = m (c, Proc.tc.devRef Cert.Kernel3Ideal.main_arg4) i := fun i => congrFun h4 i
      have e5 : ∀ i, launchContents m' c (Proc.devRef .tc Cert.Reference3Ideal.main_arg5) i = m (c, Proc.tc.devRef Cert.Kernel3Ideal.main_arg5) i := fun i => congrFun h5 i
      have e6 : ∀ i, launchContents m' c (Proc.devRef .tc Cert.Reference3Ideal.main_arg6) i = m (c, Proc.tc.devRef Cert.Kernel3Ideal.main_arg6) i := fun i => congrFun h6 i
      have e7 : ∀ i, launchContents m' c (Proc.devRef .tc Cert.Reference3Ideal.main_arg7) i = m (c, Proc.tc.devRef Cert.Kernel3Ideal.main_arg7) i := fun i => congrFun h7 i
      have e8 : ∀ i, launchContents m' c (Proc.devRef .tc Cert.Reference3Ideal.main_arg8) i = m (c, Proc.tc.devRef Cert.Kernel3Ideal.main_arg8) i := fun i => congrFun h8 i
      simp only [e1, e2, e3, e4, e5, e6, e7, e8]
    exact Cert.Sgu.row_congr hp (fun s e => congrFun h0 _) rfl rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Attention
public import proofs.«01_k».proof.Proof.FeedForward
public import proofs.«01_k».proof.Proof.SpatialGating
public import Idealize.ShloMosaic.Adequacy
public import Idealize.ShloMosaic.Init

@[expose] public section

noncomputable section

namespace Cert.Proof

open Idealize.ShloMosaic Idealize.SL.Sem Cert.Kernel

/-- The attention reference ends, leaving its arguments as they were and no semaphore raised. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward reference ends, leaving its arguments as they were and no semaphore raised. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The spatial gating reference ends, leaving its arguments as they were and no semaphore raised. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The two named constants of the attention kernel are the words they stand for. -/
theorem constants : Cert.preserves_Kernel_KernelIdeal :=
  ⟨IdealRules.named_const.statement _ _ _ _ _ rfl, IdealRules.named_const.statement _ _ _ _ _ rfl⟩

/-- The named constant of the spatial gating kernel is the word it stands for. -/
theorem constants3 : Cert.preserves_Kernel3_Kernel3Ideal :=
  IdealRules.named_const.statement _ _ _ _ _ rfl

/-- All claims: every program's frame, that the ideal kernels are the kernels, and the three equations. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Pre_finite.Gen.facts,
  fun m ρ _ => Cert.Kernel.Gen.frame m ρ, fun m ρ _ => Cert.KernelIdeal.Gen.frame m ρ,
  fun m ρ _ => Cert.KernelIdeal.Gen.frame m ρ, frame_reference, fun m g _ => frame_reference m g trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  constants, attention, trivial, feedForward, constants3, spatialGating⟩

end Cert.Proof

end
